-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S2048x1024 : Shape := ⟨2, ![2048, 1024]⟩
abbrev S32x4x12x1024 : Shape := ⟨4, ![32, 4, 12, 1024]⟩
abbrev S7 : Shape := ⟨1, ![7]⟩
abbrev S3 : Shape := ⟨1, ![3]⟩
abbrev S21 : Shape := ⟨1, ![21]⟩
abbrev S_ : Shape := ⟨0, ![]⟩
abbrev S1x4 : Shape := ⟨2, ![1, 4]⟩
abbrev S2048x4 : Shape := ⟨2, ![2048, 4]⟩
abbrev S2047x4 : Shape := ⟨2, ![2047, 4]⟩
abbrev S2x4 : Shape := ⟨2, ![2, 4]⟩
abbrev S2046x4 : Shape := ⟨2, ![2046, 4]⟩
abbrev S4x4 : Shape := ⟨2, ![4, 4]⟩
abbrev S2044x4 : Shape := ⟨2, ![2044, 4]⟩
abbrev S8x4 : Shape := ⟨2, ![8, 4]⟩
abbrev S2040x4 : Shape := ⟨2, ![2040, 4]⟩
abbrev S16x4 : Shape := ⟨2, ![16, 4]⟩
abbrev S2032x4 : Shape := ⟨2, ![2032, 4]⟩
abbrev S32x4 : Shape := ⟨2, ![32, 4]⟩
abbrev S2016x4 : Shape := ⟨2, ![2016, 4]⟩
abbrev S64x4 : Shape := ⟨2, ![64, 4]⟩
abbrev S1984x4 : Shape := ⟨2, ![1984, 4]⟩
abbrev S128x4 : Shape := ⟨2, ![128, 4]⟩
abbrev S1920x4 : Shape := ⟨2, ![1920, 4]⟩
abbrev S256x4 : Shape := ⟨2, ![256, 4]⟩
abbrev S1792x4 : Shape := ⟨2, ![1792, 4]⟩
abbrev S512x4 : Shape := ⟨2, ![512, 4]⟩
abbrev S1536x4 : Shape := ⟨2, ![1536, 4]⟩
abbrev S1024x4 : Shape := ⟨2, ![1024, 4]⟩
abbrev S1x12 : Shape := ⟨2, ![1, 12]⟩
abbrev S2048x12 : Shape := ⟨2, ![2048, 12]⟩
abbrev S12x512 : Shape := ⟨2, ![12, 512]⟩
abbrev S1x512x1024 : Shape := ⟨3, ![1, 512, 1024]⟩
abbrev S512x1024 : Shape := ⟨2, ![512, 1024]⟩
abbrev S12x1024 : Shape := ⟨2, ![12, 1024]⟩
abbrev S1x12x1024 : Shape := ⟨3, ![1, 12, 1024]⟩
abbrev S1x1x12x1024 : Shape := ⟨4, ![1, 1, 12, 1024]⟩
abbrev S1 : Shape := ⟨1, ![1]⟩
abbrev S1x4x12x1024 : Shape := ⟨4, ![1, 4, 12, 1024]⟩
abbrev S1x128 : Shape := ⟨2, ![1, 128]⟩
abbrev S2048x128 : Shape := ⟨2, ![2048, 128]⟩
abbrev S2047x128 : Shape := ⟨2, ![2047, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S128x128 : Shape := ⟨2, ![128, 128]⟩
abbrev S1920x128 : Shape := ⟨2, ![1920, 128]⟩
abbrev S256x128 : Shape := ⟨2, ![256, 128]⟩
abbrev S1792x128 : Shape := ⟨2, ![1792, 128]⟩
abbrev S1536x128 : Shape := ⟨2, ![1536, 128]⟩
abbrev S1024x128 : Shape := ⟨2, ![1024, 128]⟩
abbrev S2048x1536 : Shape := ⟨2, ![2048, 1536]⟩
abbrev S32x4x1x1024 : Shape := ⟨4, ![32, 4, 1, 1024]⟩
abbrev S32x4x1024 : Shape := ⟨3, ![32, 4, 1024]⟩
abbrev S128x1024 : Shape := ⟨2, ![128, 1024]⟩
abbrev S1536x1024 : Shape := ⟨2, ![1536, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S2048x1, .i32⟩
  | .local _ .vmem, ⟨2, _⟩ => ⟨S4x512x1024, .f32⟩
  | .local _ .vmem, ⟨3, _⟩ => ⟨S2048x1024, .f32⟩
  | .local _ .vmem, ⟨4, _⟩ => ⟨S32x4x12x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v6 : BitVec 32 := Scalar.addi v2 c1_i32_1
  let c32_i32_2 : BitVec 32 := 32#32
  let v7 : BitVec 32 := Scalar.remsi v6 c32_i32_2
  let c1_i32_4 : BitVec 32 := 1#32
  let v8 : BitVec 32 := Scalar.muli v7 c1_i32_4
  let v9 : BitVec 32 := Scalar.addi c0_i32 v8
  v9.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 32 := Scalar.addi v2 c2_i32
  let c32_i32_5 : BitVec 32 := 32#32
  let v11 : BitVec 32 := Scalar.remsi v10 c32_i32_5
  let c1_i32_7 : BitVec 32 := 1#32
  let v12 : BitVec 32 := Scalar.muli v11 c1_i32_7
  let v13 : BitVec 32 := Scalar.addi c0_i32_8 v12
  v13.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v14 : BitVec 32 := Scalar.addi v2 c3_i32
  let c32_i32_9 : BitVec 32 := 32#32
  let v15 : BitVec 32 := Scalar.remsi v14 c32_i32_9
  let c1_i32_11 : BitVec 32 := 1#32
  let v16 : BitVec 32 := Scalar.muli v15 c1_i32_11
  let v17 : BitVec 32 := Scalar.addi c0_i32_12 v16
  v17.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v18 : BitVec 32 := Scalar.addi v2 c4_i32
  let c32_i32_13 : BitVec 32 := 32#32
  let v19 : BitVec 32 := Scalar.remsi v18 c32_i32_13
  let c1_i32_15 : BitVec 32 := 1#32
  let v20 : BitVec 32 := Scalar.muli v19 c1_i32_15
  let v21 : BitVec 32 := Scalar.addi c0_i32_16 v20
  v21.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v22 : BitVec 32 := Scalar.addi v2 c5_i32
  let c32_i32_17 : BitVec 32 := 32#32
  let v23 : BitVec 32 := Scalar.remsi v22 c32_i32_17
  let c1_i32_19 : BitVec 32 := 1#32
  let v24 : BitVec 32 := Scalar.muli v23 c1_i32_19
  let v25 : BitVec 32 := Scalar.addi c0_i32_20 v24
  v25.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v26 : BitVec 32 := Scalar.addi v2 c6_i32
  let c32_i32_21 : BitVec 32 := 32#32
  let v27 : BitVec 32 := Scalar.remsi v26 c32_i32_21
  let c1_i32_23 : BitVec 32 := 1#32
  let v28 : BitVec 32 := Scalar.muli v27 c1_i32_23
  let v29 : BitVec 32 := Scalar.addi c0_i32_24 v28
  v29.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v30 : BitVec 32 := Scalar.addi v2 c7_i32
  let c32_i32_25 : BitVec 32 := 32#32
  let v31 : BitVec 32 := Scalar.remsi v30 c32_i32_25
  let c1_i32_27 : BitVec 32 := 1#32
  let v32 : BitVec 32 := Scalar.muli v31 c1_i32_27
  let v33 : BitVec 32 := Scalar.addi c0_i32_28 v32
  v33.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_29 : BitVec 32 := 8#32
  let v34 : BitVec 32 := Scalar.addi v2 c8_i32_29
  let c32_i32_30 : BitVec 32 := 32#32
  let v35 : BitVec 32 := Scalar.remsi v34 c32_i32_30
  let c1_i32_32 : BitVec 32 := 1#32
  let v36 : BitVec 32 := Scalar.muli v35 c1_i32_32
  let v37 : BitVec 32 := Scalar.addi c0_i32_33 v36
  v37.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v38 : BitVec 32 := Scalar.addi v2 c9_i32
  let c32_i32_34 : BitVec 32 := 32#32
  let v39 : BitVec 32 := Scalar.remsi v38 c32_i32_34
  let c1_i32_36 : BitVec 32 := 1#32
  let v40 : BitVec 32 := Scalar.muli v39 c1_i32_36
  let v41 : BitVec 32 := Scalar.addi c0_i32_37 v40
  v41.toNat
def k0_dev10 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v42 : BitVec 32 := Scalar.addi v2 c10_i32
  let c32_i32_38 : BitVec 32 := 32#32
  let v43 : BitVec 32 := Scalar.remsi v42 c32_i32_38
  let c1_i32_40 : BitVec 32 := 1#32
  let v44 : BitVec 32 := Scalar.muli v43 c1_i32_40
  let v45 : BitVec 32 := Scalar.addi c0_i32_41 v44
  v45.toNat
def k0_dev11 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v46 : BitVec 32 := Scalar.addi v2 c11_i32
  let c32_i32_42 : BitVec 32 := 32#32
  let v47 : BitVec 32 := Scalar.remsi v46 c32_i32_42
  let c1_i32_44 : BitVec 32 := 1#32
  let v48 : BitVec 32 := Scalar.muli v47 c1_i32_44
  let v49 : BitVec 32 := Scalar.addi c0_i32_45 v48
  v49.toNat
def k0_dev12 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v50 : BitVec 32 := Scalar.addi v2 c12_i32
  let c32_i32_46 : BitVec 32 := 32#32
  let v51 : BitVec 32 := Scalar.remsi v50 c32_i32_46
  let c1_i32_48 : BitVec 32 := 1#32
  let v52 : BitVec 32 := Scalar.muli v51 c1_i32_48
  let v53 : BitVec 32 := Scalar.addi c0_i32_49 v52
  v53.toNat
def k0_dev13 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v54 : BitVec 32 := Scalar.addi v2 c13_i32
  let c32_i32_50 : BitVec 32 := 32#32
  let v55 : BitVec 32 := Scalar.remsi v54 c32_i32_50
  let c1_i32_52 : BitVec 32 := 1#32
  let v56 : BitVec 32 := Scalar.muli v55 c1_i32_52
  let v57 : BitVec 32 := Scalar.addi c0_i32_53 v56
  v57.toNat
def k0_dev14 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v58 : BitVec 32 := Scalar.addi v2 c14_i32
  let c32_i32_54 : BitVec 32 := 32#32
  let v59 : BitVec 32 := Scalar.remsi v58 c32_i32_54
  let c1_i32_56 : BitVec 32 := 1#32
  let v60 : BitVec 32 := Scalar.muli v59 c1_i32_56
  let v61 : BitVec 32 := Scalar.addi c0_i32_57 v60
  v61.toNat
def k0_dev15 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v62 : BitVec 32 := Scalar.addi v2 c15_i32
  let c32_i32_58 : BitVec 32 := 32#32
  let v63 : BitVec 32 := Scalar.remsi v62 c32_i32_58
  let c1_i32_60 : BitVec 32 := 1#32
  let v64 : BitVec 32 := Scalar.muli v63 c1_i32_60
  let v65 : BitVec 32 := Scalar.addi c0_i32_61 v64
  v65.toNat
def k0_dev16 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v66 : BitVec 32 := Scalar.addi v2 c16_i32
  let c32_i32_62 : BitVec 32 := 32#32
  let v67 : BitVec 32 := Scalar.remsi v66 c32_i32_62
  let c1_i32_64 : BitVec 32 := 1#32
  let v68 : BitVec 32 := Scalar.muli v67 c1_i32_64
  let v69 : BitVec 32 := Scalar.addi c0_i32_65 v68
  v69.toNat
def k0_dev17 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v70 : BitVec 32 := Scalar.addi v2 c17_i32
  let c32_i32_66 : BitVec 32 := 32#32
  let v71 : BitVec 32 := Scalar.remsi v70 c32_i32_66
  let c1_i32_68 : BitVec 32 := 1#32
  let v72 : BitVec 32 := Scalar.muli v71 c1_i32_68
  let v73 : BitVec 32 := Scalar.addi c0_i32_69 v72
  v73.toNat
def k0_dev18 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v74 : BitVec 32 := Scalar.addi v2 c18_i32
  let c32_i32_70 : BitVec 32 := 32#32
  let v75 : BitVec 32 := Scalar.remsi v74 c32_i32_70
  let c1_i32_72 : BitVec 32 := 1#32
  let v76 : BitVec 32 := Scalar.muli v75 c1_i32_72
  let v77 : BitVec 32 := Scalar.addi c0_i32_73 v76
  v77.toNat
def k0_dev19 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v78 : BitVec 32 := Scalar.addi v2 c19_i32
  let c32_i32_74 : BitVec 32 := 32#32
  let v79 : BitVec 32 := Scalar.remsi v78 c32_i32_74
  let c1_i32_76 : BitVec 32 := 1#32
  let v80 : BitVec 32 := Scalar.muli v79 c1_i32_76
  let v81 : BitVec 32 := Scalar.addi c0_i32_77 v80
  v81.toNat
def k0_dev20 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v82 : BitVec 32 := Scalar.addi v2 c20_i32
  let c32_i32_78 : BitVec 32 := 32#32
  let v83 : BitVec 32 := Scalar.remsi v82 c32_i32_78
  let c1_i32_80 : BitVec 32 := 1#32
  let v84 : BitVec 32 := Scalar.muli v83 c1_i32_80
  let v85 : BitVec 32 := Scalar.addi c0_i32_81 v84
  v85.toNat
def k0_dev21 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v86 : BitVec 32 := Scalar.addi v2 c21_i32
  let c32_i32_82 : BitVec 32 := 32#32
  let v87 : BitVec 32 := Scalar.remsi v86 c32_i32_82
  let c1_i32_84 : BitVec 32 := 1#32
  let v88 : BitVec 32 := Scalar.muli v87 c1_i32_84
  let v89 : BitVec 32 := Scalar.addi c0_i32_85 v88
  v89.toNat
def k0_dev22 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v90 : BitVec 32 := Scalar.addi v2 c22_i32
  let c32_i32_86 : BitVec 32 := 32#32
  let v91 : BitVec 32 := Scalar.remsi v90 c32_i32_86
  let c1_i32_88 : BitVec 32 := 1#32
  let v92 : BitVec 32 := Scalar.muli v91 c1_i32_88
  let v93 : BitVec 32 := Scalar.addi c0_i32_89 v92
  v93.toNat
def k0_dev23 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v94 : BitVec 32 := Scalar.addi v2 c23_i32
  let c32_i32_90 : BitVec 32 := 32#32
  let v95 : BitVec 32 := Scalar.remsi v94 c32_i32_90
  let c1_i32_92 : BitVec 32 := 1#32
  let v96 : BitVec 32 := Scalar.muli v95 c1_i32_92
  let v97 : BitVec 32 := Scalar.addi c0_i32_93 v96
  v97.toNat
def k0_dev24 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v98 : BitVec 32 := Scalar.addi v2 c24_i32
  let c32_i32_94 : BitVec 32 := 32#32
  let v99 : BitVec 32 := Scalar.remsi v98 c32_i32_94
  let c1_i32_96 : BitVec 32 := 1#32
  let v100 : BitVec 32 := Scalar.muli v99 c1_i32_96
  let v101 : BitVec 32 := Scalar.addi c0_i32_97 v100
  v101.toNat
def k0_dev25 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v102 : BitVec 32 := Scalar.addi v2 c25_i32
  let c32_i32_98 : BitVec 32 := 32#32
  let v103 : BitVec 32 := Scalar.remsi v102 c32_i32_98
  let c1_i32_100 : BitVec 32 := 1#32
  let v104 : BitVec 32 := Scalar.muli v103 c1_i32_100
  let v105 : BitVec 32 := Scalar.addi c0_i32_101 v104
  v105.toNat
def k0_dev26 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v106 : BitVec 32 := Scalar.addi v2 c26_i32
  let c32_i32_102 : BitVec 32 := 32#32
  let v107 : BitVec 32 := Scalar.remsi v106 c32_i32_102
  let c1_i32_104 : BitVec 32 := 1#32
  let v108 : BitVec 32 := Scalar.muli v107 c1_i32_104
  let v109 : BitVec 32 := Scalar.addi c0_i32_105 v108
  v109.toNat
def k0_dev27 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v110 : BitVec 32 := Scalar.addi v2 c27_i32
  let c32_i32_106 : BitVec 32 := 32#32
  let v111 : BitVec 32 := Scalar.remsi v110 c32_i32_106
  let c1_i32_108 : BitVec 32 := 1#32
  let v112 : BitVec 32 := Scalar.muli v111 c1_i32_108
  let v113 : BitVec 32 := Scalar.addi c0_i32_109 v112
  v113.toNat
def k0_dev28 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v114 : BitVec 32 := Scalar.addi v2 c28_i32
  let c32_i32_110 : BitVec 32 := 32#32
  let v115 : BitVec 32 := Scalar.remsi v114 c32_i32_110
  let c1_i32_112 : BitVec 32 := 1#32
  let v116 : BitVec 32 := Scalar.muli v115 c1_i32_112
  let v117 : BitVec 32 := Scalar.addi c0_i32_113 v116
  v117.toNat
def k0_dev29 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v118 : BitVec 32 := Scalar.addi v2 c29_i32
  let c32_i32_114 : BitVec 32 := 32#32
  let v119 : BitVec 32 := Scalar.remsi v118 c32_i32_114
  let c1_i32_116 : BitVec 32 := 1#32
  let v120 : BitVec 32 := Scalar.muli v119 c1_i32_116
  let v121 : BitVec 32 := Scalar.addi c0_i32_117 v120
  v121.toNat
def k0_dev30 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v122 : BitVec 32 := Scalar.addi v2 c30_i32
  let c32_i32_118 : BitVec 32 := 32#32
  let v123 : BitVec 32 := Scalar.remsi v122 c32_i32_118
  let c1_i32_120 : BitVec 32 := 1#32
  let v124 : BitVec 32 := Scalar.muli v123 c1_i32_120
  let v125 : BitVec 32 := Scalar.addi c0_i32_121 v124
  v125.toNat
def k0_dev31 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v126 : BitVec 32 := Scalar.addi v2 c31_i32
  let c32_i32_122 : BitVec 32 := 32#32
  let v127 : BitVec 32 := Scalar.remsi v126 c32_i32_122
  let c1_i32_124 : BitVec 32 := 1#32
  let v128 : BitVec 32 := Scalar.muli v127 c1_i32_124
  let v129 : BitVec 32 := Scalar.addi c0_i32_125 v128
  v129.toNat
def k0_off1 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v210 : Index := Scalar.indexCast v2
  let c0_147 : Index := 0#32
  let c0_148 : Index := 0#32
  let c0_149 : Index := 0#32
  ![v210.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v232 : Index := Scalar.indexCast v2
  let c1_154 : Index := 1#32
  let c0_155 : Index := 0#32
  let c0_156 : Index := 0#32
  ![v232.toNat, 1, 0, 0]
def k0_off3 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v254 : Index := Scalar.indexCast v2
  let c2_161 : Index := 2#32
  let c0_162 : Index := 0#32
  let c0_163 : Index := 0#32
  ![v254.toNat, 2, 0, 0]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v276 : Index := Scalar.indexCast v2
  let c3_168 : Index := 3#32
  let c0_169 : Index := 0#32
  let c0_170 : Index := 0#32
  ![v276.toNat, 3, 0, 0]
def k0_off5 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_178 : BitVec 32 := 0#32
  let c0_i32_179 : BitVec 32 := 0#32
  let c0_i32_180 : BitVec 32 := 0#32
  ![v2.toNat, 0, 0, 0]
def k0_dev32 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_171 : BitVec 32 := 8#32
  let v280 : BitVec 32 := Scalar.muli v3 c8_i32_171
  let c8_i32_0 : BitVec 32 := 8#32
  let v4 : BitVec 32 := Scalar.remsi v2 c8_i32_0
  let c1_i32_172 : BitVec 32 := 1#32
  let v281 : BitVec 32 := Scalar.addi v4 c1_i32_172
  let c8_i32_173 : BitVec 32 := 8#32
  let v282 : BitVec 32 := Scalar.remsi v281 c8_i32_173
  let v283 : BitVec 32 := Scalar.addi v280 v282
  let c1_i32_176 : BitVec 32 := 1#32
  let v284 : BitVec 32 := Scalar.muli v283 c1_i32_176
  let v285 : BitVec 32 := Scalar.addi c0_i32_177 v284
  v285.toNat
def k0_dev33 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_184 : BitVec 32 := 8#32
  let v292 : BitVec 32 := Scalar.muli v3 c8_i32_184
  let c8_i32_0 : BitVec 32 := 8#32
  let v4 : BitVec 32 := Scalar.remsi v2 c8_i32_0
  let c2_i32_185 : BitVec 32 := 2#32
  let v293 : BitVec 32 := Scalar.addi v4 c2_i32_185
  let c8_i32_186 : BitVec 32 := 8#32
  let v294 : BitVec 32 := Scalar.remsi v293 c8_i32_186
  let v295 : BitVec 32 := Scalar.addi v292 v294
  let c1_i32_189 : BitVec 32 := 1#32
  let v296 : BitVec 32 := Scalar.muli v295 c1_i32_189
  let v297 : BitVec 32 := Scalar.addi c0_i32_190 v296
  v297.toNat
def k0_dev34 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_197 : BitVec 32 := 8#32
  let v304 : BitVec 32 := Scalar.muli v3 c8_i32_197
  let c8_i32_0 : BitVec 32 := 8#32
  let v4 : BitVec 32 := Scalar.remsi v2 c8_i32_0
  let c3_i32_198 : BitVec 32 := 3#32
  let v305 : BitVec 32 := Scalar.addi v4 c3_i32_198
  let c8_i32_199 : BitVec 32 := 8#32
  let v306 : BitVec 32 := Scalar.remsi v305 c8_i32_199
  let v307 : BitVec 32 := Scalar.addi v304 v306
  let c1_i32_202 : BitVec 32 := 1#32
  let v308 : BitVec 32 := Scalar.muli v307 c1_i32_202
  let v309 : BitVec 32 := Scalar.addi c0_i32_203 v308
  v309.toNat
def k0_dev35 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_210 : BitVec 32 := 8#32
  let v316 : BitVec 32 := Scalar.muli v3 c8_i32_210
  let c8_i32_0 : BitVec 32 := 8#32
  let v4 : BitVec 32 := Scalar.remsi v2 c8_i32_0
  let c4_i32_211 : BitVec 32 := 4#32
  let v317 : BitVec 32 := Scalar.addi v4 c4_i32_211
  let c8_i32_212 : BitVec 32 := 8#32
  let v318 : BitVec 32 := Scalar.remsi v317 c8_i32_212
  let v319 : BitVec 32 := Scalar.addi v316 v318
  let c1_i32_215 : BitVec 32 := 1#32
  let v320 : BitVec 32 := Scalar.muli v319 c1_i32_215
  let v321 : BitVec 32 := Scalar.addi c0_i32_216 v320
  v321.toNat
def k0_dev36 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_223 : BitVec 32 := 8#32
  let v328 : BitVec 32 := Scalar.muli v3 c8_i32_223
  let c8_i32_0 : BitVec 32 := 8#32
  let v4 : BitVec 32 := Scalar.remsi v2 c8_i32_0
  let c5_i32_224 : BitVec 32 := 5#32
  let v329 : BitVec 32 := Scalar.addi v4 c5_i32_224
  let c8_i32_225 : BitVec 32 := 8#32
  let v330 : BitVec 32 := Scalar.remsi v329 c8_i32_225
  let v331 : BitVec 32 := Scalar.addi v328 v330
  let c1_i32_228 : BitVec 32 := 1#32
  let v332 : BitVec 32 := Scalar.muli v331 c1_i32_228
  let v333 : BitVec 32 := Scalar.addi c0_i32_229 v332
  v333.toNat
def k0_dev37 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_236 : BitVec 32 := 8#32
  let v340 : BitVec 32 := Scalar.muli v3 c8_i32_236
  let c8_i32_0 : BitVec 32 := 8#32
  let v4 : BitVec 32 := Scalar.remsi v2 c8_i32_0
  let c6_i32_237 : BitVec 32 := 6#32
  let v341 : BitVec 32 := Scalar.addi v4 c6_i32_237
  let c8_i32_238 : BitVec 32 := 8#32
  let v342 : BitVec 32 := Scalar.remsi v341 c8_i32_238
  let v343 : BitVec 32 := Scalar.addi v340 v342
  let c1_i32_241 : BitVec 32 := 1#32
  let v344 : BitVec 32 := Scalar.muli v343 c1_i32_241
  let v345 : BitVec 32 := Scalar.addi c0_i32_242 v344
  v345.toNat
def k0_dev38 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_249 : BitVec 32 := 8#32
  let v352 : BitVec 32 := Scalar.muli v3 c8_i32_249
  let c8_i32_0 : BitVec 32 := 8#32
  let v4 : BitVec 32 := Scalar.remsi v2 c8_i32_0
  let c7_i32_250 : BitVec 32 := 7#32
  let v353 : BitVec 32 := Scalar.addi v4 c7_i32_250
  let c8_i32_251 : BitVec 32 := 8#32
  let v354 : BitVec 32 := Scalar.remsi v353 c8_i32_251
  let v355 : BitVec 32 := Scalar.addi v352 v354
  let c1_i32_254 : BitVec 32 := 1#32
  let v356 : BitVec 32 := Scalar.muli v355 c1_i32_254
  let v357 : BitVec 32 := Scalar.addi c0_i32_255 v356
  v357.toNat
def k0_dev39 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_262 : BitVec 32 := 8#32
  let v364 : BitVec 32 := Scalar.addi v2 c8_i32_262
  let c32_i32_263 : BitVec 32 := 32#32
  let v365 : BitVec 32 := Scalar.remsi v364 c32_i32_263
  let c1_i32_266 : BitVec 32 := 1#32
  let v366 : BitVec 32 := Scalar.muli v365 c1_i32_266
  let v367 : BitVec 32 := Scalar.addi c0_i32_267 v366
  v367.toNat
def k0_dev40 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_274 : BitVec 32 := 16#32
  let v374 : BitVec 32 := Scalar.addi v2 c16_i32_274
  let c32_i32_275 : BitVec 32 := 32#32
  let v375 : BitVec 32 := Scalar.remsi v374 c32_i32_275
  let c1_i32_278 : BitVec 32 := 1#32
  let v376 : BitVec 32 := Scalar.muli v375 c1_i32_278
  let v377 : BitVec 32 := Scalar.addi c0_i32_279 v376
  v377.toNat
def k0_dev41 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_286 : BitVec 32 := 24#32
  let v384 : BitVec 32 := Scalar.addi v2 c24_i32_286
  let c32_i32_287 : BitVec 32 := 32#32
  let v385 : BitVec 32 := Scalar.remsi v384 c32_i32_287
  let c1_i32_290 : BitVec 32 := 1#32
  let v386 : BitVec 32 := Scalar.muli v385 c1_i32_290
  let v387 : BitVec 32 := Scalar.addi c0_i32_291 v386
  v387.toNat
def k0_off6 (d0 : Dev nD) (c1_i32_328 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v456 : BitVec 32 := Scalar.subi v3 c1_i32_328
  let c4_i32_329 : BitVec 32 := 4#32
  let v457 : BitVec 32 := Scalar.addi v456 c4_i32_329
  let c4_i32_330 : BitVec 32 := 4#32
  let v458 : BitVec 32 := Scalar.remsi v457 c4_i32_330
  let c8_i32_331 : BitVec 32 := 8#32
  let v459 : BitVec 32 := Scalar.muli v458 c8_i32_331
  let c8_i32_0 : BitVec 32 := 8#32
  let v4 : BitVec 32 := Scalar.remsi v2 c8_i32_0
  let v460 : BitVec 32 := Scalar.addi v459 v4
  let c0_i32_339 : BitVec 32 := 0#32
  let c0_i32_340 : BitVec 32 := 0#32
  let c0_i32_341 : BitVec 32 := 0#32
  ![v460.toNat, 0, 0, 0]
def k0_dev42 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_332 : BitVec 32 := 8#32
  let v461 : BitVec 32 := Scalar.muli v3 c8_i32_332
  let c8_i32_0 : BitVec 32 := 8#32
  let v4 : BitVec 32 := Scalar.remsi v2 c8_i32_0
  let c1_i32_333 : BitVec 32 := 1#32
  let v462 : BitVec 32 := Scalar.addi v4 c1_i32_333
  let c8_i32_334 : BitVec 32 := 8#32
  let v463 : BitVec 32 := Scalar.remsi v462 c8_i32_334
  let v464 : BitVec 32 := Scalar.addi v461 v463
  let c1_i32_337 : BitVec 32 := 1#32
  let v465 : BitVec 32 := Scalar.muli v464 c1_i32_337
  let v466 : BitVec 32 := Scalar.addi c0_i32_338 v465
  v466.toNat
def k0_dev43 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_345 : BitVec 32 := 8#32
  let v473 : BitVec 32 := Scalar.muli v3 c8_i32_345
  let c8_i32_0 : BitVec 32 := 8#32
  let v4 : BitVec 32 := Scalar.remsi v2 c8_i32_0
  let c2_i32_346 : BitVec 32 := 2#32
  let v474 : BitVec 32 := Scalar.addi v4 c2_i32_346
  let c8_i32_347 : BitVec 32 := 8#32
  let v475 : BitVec 32 := Scalar.remsi v474 c8_i32_347
  let v476 : BitVec 32 := Scalar.addi v473 v475
  let c1_i32_350 : BitVec 32 := 1#32
  let v477 : BitVec 32 := Scalar.muli v476 c1_i32_350
  let v478 : BitVec 32 := Scalar.addi c0_i32_351 v477
  v478.toNat
def k0_dev44 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_358 : BitVec 32 := 8#32
  let v485 : BitVec 32 := Scalar.muli v3 c8_i32_358
  let c8_i32_0 : BitVec 32 := 8#32
  let v4 : BitVec 32 := Scalar.remsi v2 c8_i32_0
  let c3_i32_359 : BitVec 32 := 3#32
  let v486 : BitVec 32 := Scalar.addi v4 c3_i32_359
  let c8_i32_360 : BitVec 32 := 8#32
  let v487 : BitVec 32 := Scalar.remsi v486 c8_i32_360
  let v488 : BitVec 32 := Scalar.addi v485 v487
  let c1_i32_363 : BitVec 32 := 1#32
  let v489 : BitVec 32 := Scalar.muli v488 c1_i32_363
  let v490 : BitVec 32 := Scalar.addi c0_i32_364 v489
  v490.toNat
def k0_dev45 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_371 : BitVec 32 := 8#32
  let v497 : BitVec 32 := Scalar.muli v3 c8_i32_371
  let c8_i32_0 : BitVec 32 := 8#32
  let v4 : BitVec 32 := Scalar.remsi v2 c8_i32_0
  let c4_i32_372 : BitVec 32 := 4#32
  let v498 : BitVec 32 := Scalar.addi v4 c4_i32_372
  let c8_i32_373 : BitVec 32 := 8#32
  let v499 : BitVec 32 := Scalar.remsi v498 c8_i32_373
  let v500 : BitVec 32 := Scalar.addi v497 v499
  let c1_i32_376 : BitVec 32 := 1#32
  let v501 : BitVec 32 := Scalar.muli v500 c1_i32_376
  let v502 : BitVec 32 := Scalar.addi c0_i32_377 v501
  v502.toNat
def k0_dev46 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_384 : BitVec 32 := 8#32
  let v509 : BitVec 32 := Scalar.muli v3 c8_i32_384
  let c8_i32_0 : BitVec 32 := 8#32
  let v4 : BitVec 32 := Scalar.remsi v2 c8_i32_0
  let c5_i32_385 : BitVec 32 := 5#32
  let v510 : BitVec 32 := Scalar.addi v4 c5_i32_385
  let c8_i32_386 : BitVec 32 := 8#32
  let v511 : BitVec 32 := Scalar.remsi v510 c8_i32_386
  let v512 : BitVec 32 := Scalar.addi v509 v511
  let c1_i32_389 : BitVec 32 := 1#32
  let v513 : BitVec 32 := Scalar.muli v512 c1_i32_389
  let v514 : BitVec 32 := Scalar.addi c0_i32_390 v513
  v514.toNat
def k0_dev47 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_397 : BitVec 32 := 8#32
  let v521 : BitVec 32 := Scalar.muli v3 c8_i32_397
  let c8_i32_0 : BitVec 32 := 8#32
  let v4 : BitVec 32 := Scalar.remsi v2 c8_i32_0
  let c6_i32_398 : BitVec 32 := 6#32
  let v522 : BitVec 32 := Scalar.addi v4 c6_i32_398
  let c8_i32_399 : BitVec 32 := 8#32
  let v523 : BitVec 32 := Scalar.remsi v522 c8_i32_399
  let v524 : BitVec 32 := Scalar.addi v521 v523
  let c1_i32_402 : BitVec 32 := 1#32
  let v525 : BitVec 32 := Scalar.muli v524 c1_i32_402
  let v526 : BitVec 32 := Scalar.addi c0_i32_403 v525
  v526.toNat
def k0_dev48 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_410 : BitVec 32 := 8#32
  let v533 : BitVec 32 := Scalar.muli v3 c8_i32_410
  let c8_i32_0 : BitVec 32 := 8#32
  let v4 : BitVec 32 := Scalar.remsi v2 c8_i32_0
  let c7_i32_411 : BitVec 32 := 7#32
  let v534 : BitVec 32 := Scalar.addi v4 c7_i32_411
  let c8_i32_412 : BitVec 32 := 8#32
  let v535 : BitVec 32 := Scalar.remsi v534 c8_i32_412
  let v536 : BitVec 32 := Scalar.addi v533 v535
  let c1_i32_415 : BitVec 32 := 1#32
  let v537 : BitVec 32 := Scalar.muli v536 c1_i32_415
  let v538 : BitVec 32 := Scalar.addi c0_i32_416 v537
  v538.toNat
def k0_dev49 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_446 : BitVec 32 := 8#32
  let v560 : BitVec 32 := Scalar.muli v3 c8_i32_446
  let c8_i32_0 : BitVec 32 := 8#32
  let v4 : BitVec 32 := Scalar.remsi v2 c8_i32_0
  let c1_i32_447 : BitVec 32 := 1#32
  let v561 : BitVec 32 := Scalar.addi v4 c1_i32_447
  let c8_i32_448 : BitVec 32 := 8#32
  let v562 : BitVec 32 := Scalar.remsi v561 c8_i32_448
  let v563 : BitVec 32 := Scalar.addi v560 v562
  let c1_i32_451 : BitVec 32 := 1#32
  let v564 : BitVec 32 := Scalar.muli v563 c1_i32_451
  let v565 : BitVec 32 := Scalar.addi c0_i32_452 v564
  v565.toNat
def k0_dev50 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_459 : BitVec 32 := 8#32
  let v572 : BitVec 32 := Scalar.muli v3 c8_i32_459
  let c8_i32_0 : BitVec 32 := 8#32
  let v4 : BitVec 32 := Scalar.remsi v2 c8_i32_0
  let c2_i32_460 : BitVec 32 := 2#32
  let v573 : BitVec 32 := Scalar.addi v4 c2_i32_460
  let c8_i32_461 : BitVec 32 := 8#32
  let v574 : BitVec 32 := Scalar.remsi v573 c8_i32_461
  let v575 : BitVec 32 := Scalar.addi v572 v574
  let c1_i32_464 : BitVec 32 := 1#32
  let v576 : BitVec 32 := Scalar.muli v575 c1_i32_464
  let v577 : BitVec 32 := Scalar.addi c0_i32_465 v576
  v577.toNat
def k0_dev51 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_472 : BitVec 32 := 8#32
  let v584 : BitVec 32 := Scalar.muli v3 c8_i32_472
  let c8_i32_0 : BitVec 32 := 8#32
  let v4 : BitVec 32 := Scalar.remsi v2 c8_i32_0
  let c3_i32_473 : BitVec 32 := 3#32
  let v585 : BitVec 32 := Scalar.addi v4 c3_i32_473
  let c8_i32_474 : BitVec 32 := 8#32
  let v586 : BitVec 32 := Scalar.remsi v585 c8_i32_474
  let v587 : BitVec 32 := Scalar.addi v584 v586
  let c1_i32_477 : BitVec 32 := 1#32
  let v588 : BitVec 32 := Scalar.muli v587 c1_i32_477
  let v589 : BitVec 32 := Scalar.addi c0_i32_478 v588
  v589.toNat
def k0_dev52 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_485 : BitVec 32 := 8#32
  let v596 : BitVec 32 := Scalar.muli v3 c8_i32_485
  let c8_i32_0 : BitVec 32 := 8#32
  let v4 : BitVec 32 := Scalar.remsi v2 c8_i32_0
  let c4_i32_486 : BitVec 32 := 4#32
  let v597 : BitVec 32 := Scalar.addi v4 c4_i32_486
  let c8_i32_487 : BitVec 32 := 8#32
  let v598 : BitVec 32 := Scalar.remsi v597 c8_i32_487
  let v599 : BitVec 32 := Scalar.addi v596 v598
  let c1_i32_490 : BitVec 32 := 1#32
  let v600 : BitVec 32 := Scalar.muli v599 c1_i32_490
  let v601 : BitVec 32 := Scalar.addi c0_i32_491 v600
  v601.toNat
def k0_dev53 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_498 : BitVec 32 := 8#32
  let v608 : BitVec 32 := Scalar.muli v3 c8_i32_498
  let c8_i32_0 : BitVec 32 := 8#32
  let v4 : BitVec 32 := Scalar.remsi v2 c8_i32_0
  let c5_i32_499 : BitVec 32 := 5#32
  let v609 : BitVec 32 := Scalar.addi v4 c5_i32_499
  let c8_i32_500 : BitVec 32 := 8#32
  let v610 : BitVec 32 := Scalar.remsi v609 c8_i32_500
  let v611 : BitVec 32 := Scalar.addi v608 v610
  let c1_i32_503 : BitVec 32 := 1#32
  let v612 : BitVec 32 := Scalar.muli v611 c1_i32_503
  let v613 : BitVec 32 := Scalar.addi c0_i32_504 v612
  v613.toNat
def k0_dev54 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_511 : BitVec 32 := 8#32
  let v620 : BitVec 32 := Scalar.muli v3 c8_i32_511
  let c8_i32_0 : BitVec 32 := 8#32
  let v4 : BitVec 32 := Scalar.remsi v2 c8_i32_0
  let c6_i32_512 : BitVec 32 := 6#32
  let v621 : BitVec 32 := Scalar.addi v4 c6_i32_512
  let c8_i32_513 : BitVec 32 := 8#32
  let v622 : BitVec 32 := Scalar.remsi v621 c8_i32_513
  let v623 : BitVec 32 := Scalar.addi v620 v622
  let c1_i32_516 : BitVec 32 := 1#32
  let v624 : BitVec 32 := Scalar.muli v623 c1_i32_516
  let v625 : BitVec 32 := Scalar.addi c0_i32_517 v624
  v625.toNat
def k0_dev55 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_524 : BitVec 32 := 8#32
  let v632 : BitVec 32 := Scalar.muli v3 c8_i32_524
  let c8_i32_0 : BitVec 32 := 8#32
  let v4 : BitVec 32 := Scalar.remsi v2 c8_i32_0
  let c7_i32_525 : BitVec 32 := 7#32
  let v633 : BitVec 32 := Scalar.addi v4 c7_i32_525
  let c8_i32_526 : BitVec 32 := 8#32
  let v634 : BitVec 32 := Scalar.remsi v633 c8_i32_526
  let v635 : BitVec 32 := Scalar.addi v632 v634
  let c1_i32_529 : BitVec 32 := 1#32
  let v636 : BitVec 32 := Scalar.muli v635 c1_i32_529
  let v637 : BitVec 32 := Scalar.addi c0_i32_530 v636
  v637.toNat
def k0_dev56 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_560 : BitVec 32 := 8#32
  let v659 : BitVec 32 := Scalar.muli v3 c8_i32_560
  let c8_i32_0 : BitVec 32 := 8#32
  let v4 : BitVec 32 := Scalar.remsi v2 c8_i32_0
  let c1_i32_561 : BitVec 32 := 1#32
  let v660 : BitVec 32 := Scalar.addi v4 c1_i32_561
  let c8_i32_562 : BitVec 32 := 8#32
  let v661 : BitVec 32 := Scalar.remsi v660 c8_i32_562
  let v662 : BitVec 32 := Scalar.addi v659 v661
  let c1_i32_565 : BitVec 32 := 1#32
  let v663 : BitVec 32 := Scalar.muli v662 c1_i32_565
  let v664 : BitVec 32 := Scalar.addi c0_i32_566 v663
  v664.toNat
def k0_dev57 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_573 : BitVec 32 := 8#32
  let v671 : BitVec 32 := Scalar.muli v3 c8_i32_573
  let c8_i32_0 : BitVec 32 := 8#32
  let v4 : BitVec 32 := Scalar.remsi v2 c8_i32_0
  let c2_i32_574 : BitVec 32 := 2#32
  let v672 : BitVec 32 := Scalar.addi v4 c2_i32_574
  let c8_i32_575 : BitVec 32 := 8#32
  let v673 : BitVec 32 := Scalar.remsi v672 c8_i32_575
  let v674 : BitVec 32 := Scalar.addi v671 v673
  let c1_i32_578 : BitVec 32 := 1#32
  let v675 : BitVec 32 := Scalar.muli v674 c1_i32_578
  let v676 : BitVec 32 := Scalar.addi c0_i32_579 v675
  v676.toNat
def k0_dev58 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_586 : BitVec 32 := 8#32
  let v683 : BitVec 32 := Scalar.muli v3 c8_i32_586
  let c8_i32_0 : BitVec 32 := 8#32
  let v4 : BitVec 32 := Scalar.remsi v2 c8_i32_0
  let c3_i32_587 : BitVec 32 := 3#32
  let v684 : BitVec 32 := Scalar.addi v4 c3_i32_587
  let c8_i32_588 : BitVec 32 := 8#32
  let v685 : BitVec 32 := Scalar.remsi v684 c8_i32_588
  let v686 : BitVec 32 := Scalar.addi v683 v685
  let c1_i32_591 : BitVec 32 := 1#32
  let v687 : BitVec 32 := Scalar.muli v686 c1_i32_591
  let v688 : BitVec 32 := Scalar.addi c0_i32_592 v687
  v688.toNat
def k0_dev59 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_599 : BitVec 32 := 8#32
  let v695 : BitVec 32 := Scalar.muli v3 c8_i32_599
  let c8_i32_0 : BitVec 32 := 8#32
  let v4 : BitVec 32 := Scalar.remsi v2 c8_i32_0
  let c4_i32_600 : BitVec 32 := 4#32
  let v696 : BitVec 32 := Scalar.addi v4 c4_i32_600
  let c8_i32_601 : BitVec 32 := 8#32
  let v697 : BitVec 32 := Scalar.remsi v696 c8_i32_601
  let v698 : BitVec 32 := Scalar.addi v695 v697
  let c1_i32_604 : BitVec 32 := 1#32
  let v699 : BitVec 32 := Scalar.muli v698 c1_i32_604
  let v700 : BitVec 32 := Scalar.addi c0_i32_605 v699
  v700.toNat
def k0_dev60 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_612 : BitVec 32 := 8#32
  let v707 : BitVec 32 := Scalar.muli v3 c8_i32_612
  let c8_i32_0 : BitVec 32 := 8#32
  let v4 : BitVec 32 := Scalar.remsi v2 c8_i32_0
  let c5_i32_613 : BitVec 32 := 5#32
  let v708 : BitVec 32 := Scalar.addi v4 c5_i32_613
  let c8_i32_614 : BitVec 32 := 8#32
  let v709 : BitVec 32 := Scalar.remsi v708 c8_i32_614
  let v710 : BitVec 32 := Scalar.addi v707 v709
  let c1_i32_617 : BitVec 32 := 1#32
  let v711 : BitVec 32 := Scalar.muli v710 c1_i32_617
  let v712 : BitVec 32 := Scalar.addi c0_i32_618 v711
  v712.toNat
def k0_dev61 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_625 : BitVec 32 := 8#32
  let v719 : BitVec 32 := Scalar.muli v3 c8_i32_625
  let c8_i32_0 : BitVec 32 := 8#32
  let v4 : BitVec 32 := Scalar.remsi v2 c8_i32_0
  let c6_i32_626 : BitVec 32 := 6#32
  let v720 : BitVec 32 := Scalar.addi v4 c6_i32_626
  let c8_i32_627 : BitVec 32 := 8#32
  let v721 : BitVec 32 := Scalar.remsi v720 c8_i32_627
  let v722 : BitVec 32 := Scalar.addi v719 v721
  let c1_i32_630 : BitVec 32 := 1#32
  let v723 : BitVec 32 := Scalar.muli v722 c1_i32_630
  let v724 : BitVec 32 := Scalar.addi c0_i32_631 v723
  v724.toNat
def k0_dev62 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_638 : BitVec 32 := 8#32
  let v731 : BitVec 32 := Scalar.muli v3 c8_i32_638
  let c8_i32_0 : BitVec 32 := 8#32
  let v4 : BitVec 32 := Scalar.remsi v2 c8_i32_0
  let c7_i32_639 : BitVec 32 := 7#32
  let v732 : BitVec 32 := Scalar.addi v4 c7_i32_639
  let c8_i32_640 : BitVec 32 := 8#32
  let v733 : BitVec 32 := Scalar.remsi v732 c8_i32_640
  let v734 : BitVec 32 := Scalar.addi v731 v733
  let c1_i32_643 : BitVec 32 := 1#32
  let v735 : BitVec 32 := Scalar.muli v734 c1_i32_643
  let v736 : BitVec 32 := Scalar.addi c0_i32_644 v735
  v736.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S2048x128x1024 : Shape := ⟨3, ![2048, 128, 1024]⟩
abbrev S2048x128x1 : Shape := ⟨3, ![2048, 128, 1]⟩
abbrev S2048x1024 : Shape := ⟨2, ![2048, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x1, .i32⟩
  | .hbm, ⟨3, _⟩ => ⟨S128x512x1024, .f32⟩
  | .hbm, ⟨4, _⟩ => ⟨S1x2048, .i32⟩
  | .hbm, ⟨5, _⟩ => ⟨S2048x2048, .i32⟩
  | .hbm, ⟨6, _⟩ => ⟨S2048x2048, .i32⟩
  | .hbm, ⟨7, _⟩ => ⟨S2048x2048, .i1⟩
  | .hbm, ⟨8, _⟩ => ⟨S2048, .i32⟩
  | .hbm, ⟨9, _⟩ => ⟨S1x2048, .i32⟩
  | .hbm, ⟨10, _⟩ => ⟨S2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S128, .i32⟩
  | .hbm, ⟨25, _⟩ => ⟨S1x128, .i32⟩
  | .hbm, ⟨26, _⟩ => ⟨S2048x128, .i32⟩
  | .hbm, ⟨27, _⟩ => ⟨S2048x128, .i32⟩
  | .hbm, ⟨28, _⟩ => ⟨S2048x128, .i1⟩
  | .hbm, ⟨29, _⟩ => ⟨S_, .f32⟩
  | .hbm, ⟨30, _⟩ => ⟨S2048, .f32⟩
  | .hbm, ⟨31, _⟩ => ⟨S2048, .i1⟩
  | .hbm, ⟨32, _⟩ => ⟨S2048x1, .i1⟩
  | .hbm, ⟨33, _⟩ => ⟨S2048x128, .i1⟩
  | .hbm, ⟨34, _⟩ => ⟨S2048x128, .i1⟩
  | .hbm, ⟨35, _⟩ => ⟨S2048x128x1024, .f32⟩
  | .hbm, ⟨36, _⟩ => ⟨S2048x128x1, .i1⟩
  | .hbm, ⟨37, _⟩ => ⟨S_, .f32⟩
  | .hbm, ⟨38, _⟩ => ⟨S_, .f32⟩
  | .hbm, ⟨39, _⟩ => ⟨S2048x128x1024, .i1⟩
  | .hbm, ⟨40, _⟩ => ⟨S2048x128x1024, .f32⟩
  | .hbm, ⟨41, _⟩ => ⟨S2048x128x1024, .f32⟩
  | .hbm, ⟨42, _⟩ => ⟨S_, .f32⟩
  | .hbm, ⟨43, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Tables.lean ====
/-
# The tables of the two-level gather

The kernel makes 31 remote copies per device. They are numbered here in the order in which they are started, `k : Fin 31`:

* `k < 7` (the first level, inside a plane of eight devices): slot `c` of the gather buffer goes to the device of the same
  plane that is `k + 1` places further;
* `7 ≤ k < 10` (across the planes): slot `c` goes to the device with the same place, `k - 6` planes further;
* `10 ≤ k` (forwarded): what arrived from `d = (k - 10) / 7 + 1` planes back goes on to the device of the plane that is
  `(k - 10) % 7 + 1` places further.

`tgt k c` is the device that copy `k` of device `c` goes to, `src k c` the one from which `c` receives its copy `k`,
`sl k c` the slot that is moved, `rslot k c` the slot that arrives. The semaphores are numbered as in the kernel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.Moe

open Cert.KernelIdeal Cert.KernelIdeal.Gen
open Idealize.ShloMosaic

theorem val_lt (c : Dev nD) : c.val < 32 := c.isLt

/-! ## Devices and slots -/

set_option backward.proofsInPublic true in
/-- The device that signal `i` of device `c` goes to. -/
def sh (i : Fin 31) (c : Dev nD) : Dev nD := ⟨(c.val + (i.val + 1)) % 32, Nat.mod_lt _ (by decide)⟩

def tgtN (k c : ℕ) : ℕ :=
  if k < 7 then 8 * (c / 8) + (c % 8 + (k + 1)) % 8
  else if k < 10 then (c + 8 * (k - 6)) % 32
  else 8 * (c / 8) + (c % 8 + ((k - 10) % 7 + 1)) % 8
def srcN (k c : ℕ) : ℕ :=
  if k < 7 then 8 * (c / 8) + (c % 8 + (7 - k)) % 8
  else if k < 10 then (c + 8 * (10 - k)) % 32
  else 8 * (c / 8) + (c % 8 + (7 - (k - 10) % 7)) % 8
def slN (k c : ℕ) : ℕ :=
  if k < 10 then c else 8 * ((c / 8 + 3 - (k - 10) / 7) % 4) + c % 8

theorem tgtN_lt {k c : ℕ} (hc : c < 32) : tgtN k c < 32 := by unfold tgtN; split_ifs <;> omega
theorem srcN_lt {k c : ℕ} (hc : c < 32) : srcN k c < 32 := by unfold srcN; split_ifs <;> omega
theorem slN_lt {k c : ℕ} (hc : c < 32) : slN k c < 32 := by unfold slN; split_ifs <;> omega

set_option backward.proofsInPublic true in
def tgt (k : Fin 31) (c : Dev nD) : Dev nD := ⟨tgtN k.val c.val, tgtN_lt c.isLt⟩
set_option backward.proofsInPublic true in
def src (k : Fin 31) (c : Dev nD) : Dev nD := ⟨srcN k.val c.val, srcN_lt c.isLt⟩
set_option backward.proofsInPublic true in
def sl (k : Fin 31) (c : Dev nD) : Fin 32 := ⟨slN k.val c.val, slN_lt c.isLt⟩
def rslot (k : Fin 31) (c : Dev nD) : Fin 32 := sl k (src k c)

theorem src_tgt : ∀ (k : Fin 31) (c : Dev nD), src k (tgt k c) = c := by decide +kernel
theorem tgt_src : ∀ (k : Fin 31) (c : Dev nD), tgt k (src k c) = c := by decide +kernel
theorem tgt_ne : ∀ (k : Fin 31) (c : Dev nD), tgt k c ≠ c := by decide +kernel
theorem sh_ne : ∀ (i : Fin 31) (c : Dev nD), sh i c ≠ c := by decide +kernel
theorem rslot_tgt (k : Fin 31) (c : Dev nD) : rslot k (tgt k c) = sl k c := by unfold rslot; rw [src_tgt]
/-- A copy of the first two kinds moves the sender's own slot; -/
theorem sl_own : ∀ (k : Fin 31) (c : Dev nD), k.val < 10 → sl k c = ⟨c.val, c.isLt⟩ := by decide +kernel
/-- a forwarded one the slot that arrived with the copy across the planes. -/
theorem sl_fwd : ∀ (k : Fin 31) (c : Dev nD) (b : Fin 3), 10 + 7 * b.val ≤ k.val → k.val < 17 + 7 * b.val →
    sl k c = rslot ⟨7 + b.val, by omega⟩ c := by decide +kernel
theorem sl_off6 (c : Dev nD) (b : Fin 3) : (rslot ⟨7 + b.val, by omega⟩ c).val = 8 * ((c.val / 8 + 3 - b.val) % 4) + c.val % 8 := by
  revert c b; decide +kernel

/-- `src` and `tgt` of one copy are inverse to each other: the renaming of devices. -/
def ring (k : Fin 31) : Dev nD ≃ Dev nD := ⟨tgt k, src k, src_tgt k, tgt_src k⟩

/-- Which signal of device `c` goes to the device it receives copy `k` from. -/
def ix (k : Fin 31) (c : Dev nD) : Fin 31 := ⟨((src k c).val + 31 - c.val) % 32 % 31, Nat.mod_lt _ (by decide)⟩
theorem sh_ix : ∀ (k : Fin 31) (c : Dev nD), sh (ix k c) c = src k c := by decide +kernel
theorem ix_unique : ∀ (k : Fin 31) (c : Dev nD) (i : Fin 31), tgt k (sh i c) = c ↔ i = ix k c := by decide +kernel

/-- The device whose signal `i` reaches `c`. -/
def hs (i : Fin 31) (c : Dev nD) : Dev nD := ⟨(c.val + (31 - i.val)) % 32, Nat.mod_lt _ (by decide)⟩
theorem sh_hs : ∀ (i : Fin 31) (c : Dev nD), sh i (hs i c) = c := by decide +kernel
theorem hs_sh : ∀ (i : Fin 31) (c : Dev nD), hs i (sh i c) = c := by decide +kernel
def shift (i : Fin 31) : Dev nD ≃ Dev nD := ⟨sh i, hs i, hs_sh i, sh_hs i⟩
theorem hs_inj : ∀ (c : Dev nD) (i j : Fin 31), hs i c = hs j c → i = j := by decide +kernel
theorem hs_image : ∀ c : Dev nD, (Finset.univ.image fun i => hs i c) = Finset.univ.erase c := by decide +kernel

/-- The slots of the buffer, seen from device `c`: its own, and the 31 that arrive. -/
def slotOf (c : Dev nD) (j : Fin 32) : Fin 32 := if h : j.val = 0 then ⟨c.val, c.isLt⟩ else rslot ⟨j.val - 1, by omega⟩ c
theorem slotOf_inj : ∀ (c : Dev nD) (j j' : Fin 32), slotOf c j = slotOf c j' → j = j' := by decide +kernel
theorem rslot_ne : ∀ (c : Dev nD) (k : Fin 31), rslot k c ≠ ⟨c.val, c.isLt⟩ := by decide +kernel
theorem rslot_inj : ∀ (c : Dev nD) (k k' : Fin 31), rslot k c = rslot k' c → k = k' := by decide +kernel
theorem rslot_image : ∀ c : Dev nD, (Finset.univ.image fun k => rslot k c) = Finset.univ.erase ⟨c.val, c.isLt⟩ := by decide +kernel

/-! ## Semaphores -/

abbrev barS : Sem sig := (SemArray.scalar (sig.barrier 0 rfl) : Sems sig S_).sem

def sendN (k : ℕ) : ℕ := if k < 7 then 4 + k else if k < 10 then 11 + k else 24 + ((k - 10) % 7 * 3 + (k - 10) / 7)
def recvN (k : ℕ) : ℕ := if k < 7 then 11 + k else if k < 10 then 14 + k else 45 + ((k - 10) % 7 * 3 + (k - 10) / 7)
theorem sendN_lt {k : ℕ} (h : k < 31) : sendN k < 66 := by unfold sendN; split_ifs <;> omega
theorem recvN_lt {k : ℕ} (h : k < 31) : recvN k < 66 := by unfold recvN; split_ifs <;> omega

set_option backward.proofsInPublic true in
def sendS (k : Fin 31) : DmaSem sig := ⟨sendN k.val, sendN_lt k.isLt⟩
set_option backward.proofsInPublic true in
def recvS (k : Fin 31) : DmaSem sig := ⟨recvN k.val, recvN_lt k.isLt⟩

/-- Which copy a semaphore serves, and whether as its send semaphore. -/
def copyOf (q : DmaSem sig) : Fin 31 :=
  if q.val < 11 then ⟨(q.val - 4) % 31, Nat.mod_lt _ (by decide)⟩
  else if q.val < 18 then ⟨(q.val - 11) % 31, Nat.mod_lt _ (by decide)⟩
  else if q.val < 21 then ⟨(q.val - 11) % 31, Nat.mod_lt _ (by decide)⟩
  else if q.val < 24 then ⟨(q.val - 14) % 31, Nat.mod_lt _ (by decide)⟩
  else ⟨(10 + ((q.val - 24) % 21 % 3 * 7 + (q.val - 24) % 21 / 3)) % 31, Nat.mod_lt _ (by decide)⟩
def isSend (q : DmaSem sig) : Bool := decide (q.val < 11) || (decide (18 ≤ q.val) && decide (q.val < 21)) || (decide (24 ≤ q.val) && decide (q.val < 45))

theorem copyOf_send : ∀ k, copyOf (sendS k) = k := by decide +kernel
theorem copyOf_recv : ∀ k, copyOf (recvS k) = k := by decide +kernel
theorem isSend_send : ∀ k, isSend (sendS k) = true := by decide +kernel
theorem isSend_recv : ∀ k, isSend (recvS k) = false := by decide +kernel
theorem send_ge : ∀ k, 4 ≤ (sendS k).val := by decide +kernel
theorem recv_ge : ∀ k, 4 ≤ (recvS k).val := by decide +kernel
theorem send_ne_recv (k k' : Fin 31) : sendS k ≠ recvS k' := fun h => by
  have := isSend_send k; rw [h, isSend_recv] at this; exact absurd this (by decide)
theorem recv_inj {k k' : Fin 31} (h : recvS k = recvS k') : k = k' := by rw [← copyOf_recv k, h, copyOf_recv]
theorem send_inj {k k' : Fin 31} (h : sendS k = sendS k') : k = k' := by rw [← copyOf_send k, h, copyOf_send]

/-- The order in which the waits come: the copies across the planes first, then the others as started. -/
def pos (k : Fin 31) : ℕ := if k.val < 7 then k.val + 3 else if k.val < 10 then k.val - 7 else k.val
theorem pos_lt : ∀ k, pos k < 31 := by decide +kernel
theorem pos_inj : ∀ k k' : Fin 31, pos k = pos k' → k = k' := by decide +kernel

end Cert.Moe

end
-- ==== Proof.Sched.lean ====
/-
# The protocol: cells, contents, schedule, levels

Who waits on what, and what each landing hands over, written down before any program step:

* the barrier cell of device `c` (the runtime's, one round): every other device `d` signals it once; with its signal `d` hands over
  those slots of ITS OWN gather buffer that `c` is going to fill (`barPay c d`); `c` waits once for all 31;
* the send cell of copy `k` on device `c` (one round): the copy itself credits it; it hands back the piece of the share of the source
  slot that the copy read through;
* the receive cell of copy `k` on device `c` (one round): the copy of `src k c` credits it; it hands over slot `rslot k c` of `c`'s
  buffer holding what device number `rslot k c` computed.

One buffer `GG` describes what every slot holds once it is filled: the blocks of all devices.
-/
module

public import proofs.«01_k».proof.Proof.Tables

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the gather's (duties named by devices) -/

abbrev UG : Type := URounds (GSem nD τ sig) (Dev nD)
abbrev UU : Type := UR sig nD τ × UG

local notation "𝕄" => MT nD τ sig Unit (Elt F) ℕ UU ℕ

abbrev EP : Emb (UR sig nD τ) (MT nD τ sig Unit (Elt F) ℕ UU ℕ) := embL
abbrev EG : Emb UG (MT nD τ sig Unit (Elt F) ℕ UU ℕ) := embR

variable (m : (ℓ : Loc nD τ sig) → Buf (Elt F) ℓ)

/-! ## Memrefs and cells -/

abbrev xM : Memref sig .tc .vmem S2048x512 .f32 := Memref.whole cc0_stg0_0
abbrev rM : Memref sig .tc .vmem S2048x1 .i32 := Memref.whole cc0_stg1_0
abbrev wM : Memref sig .tc .vmem S4x512x1024 .f32 := Memref.whole cc0_stg2_0
abbrev oM : Memref sig .tc .vmem S2048x1024 .f32 := Memref.whole cc0_stg3_0
abbrev gM : Memref sig .tc .vmem S32x4x12x1024 .bf16 := Memref.whole cc0_scratch0

theorem slot_inb : ∀ s : Fin 32, ∀ a, (![s.val, 0, 0, 0] : Fin 4 → ℕ) a + S1x4x12x1024.size a ≤ S32x4x12x1024.size a := by decide +kernel

abbrev slotR (s : Fin 32) : Rect S32x4x12x1024 := Rect.unit (s := S32x4x12x1024) ![s.val, 0, 0, 0] S1x4x12x1024.size (slot_inb s)
abbrev slotM (s : Fin 32) : Memref sig .tc .vmem S1x4x12x1024 .bf16 := gM.slice (slotR s) (fun _ => rfl)

abbrev barCell (c : Dev nD) : GSem nD τ sig := ((c : Thread nD τ), .reg barS)
abbrev sendCell (k : Fin 31) (c : Dev nD) : GSem nD τ sig := ((c : Thread nD τ), .dma (sendS k))
abbrev recvCell (k : Fin 31) (c : Dev nD) : GSem nD τ sig := ((c : Thread nD τ), .dma (recvS k))

/-- The credit of one slot's copy. -/
abbrev N : ℕ := (slotM 0).view.dmaCredit
theorem N_pos : 0 < N := View.dmaCredit_pos _ (by decide)
theorem N_eq (s : Fin 32) : (slotM s).view.dmaCredit = N := rfl

/-- The elements of slot `s`. -/
abbrev slotSet (s : Fin 32) : Finset S32x4x12x1024.Idx := (slotR s).set

theorem slotM_set (s : Fin 32) : (slotM s).view.set = slotSet s := View.set_slice_whole cc0_scratch0 (slotR s)

theorem mem_slotSet (s : Fin 32) (i : S32x4x12x1024.Idx) : i ∈ slotSet s ↔ (i 0).val = s.val := by
  unfold slotSet slotR
  rw [Rect.mem_set_unit]
  constructor
  · intro h
    have h0 := h 0
    have h1 : (![s.val, 0, 0, 0] : Fin 4 → ℕ) 0 = s.val := rfl
    have h2 : S1x4x12x1024.size 0 = 1 := rfl
    change s.val ≤ (i 0).val ∧ (i 0).val < s.val + 1 at h0
    omega
  · intro h a
    have h1 : (i 1).val < 4 := (i 1).isLt
    have h2 : (i 2).val < 12 := (i 2).isLt
    have h3 : (i 3).val < 1024 := (i 3).isLt
    fin_cases a
    · change s.val ≤ (i 0).val ∧ (i 0).val < s.val + 1; omega
    · change 0 ≤ (i 1).val ∧ (i 1).val < 0 + 4; omega
    · change 0 ≤ (i 2).val ∧ (i 2).val < 0 + 12; omega
    · change 0 ≤ (i 3).val ∧ (i 3).val < 0 + 1024; omega

theorem slotSet_disjoint {s s' : Fin 32} (h : s ≠ s') : Disjoint (slotSet s) (slotSet s') :=
  Finset.disjoint_left.mpr fun i hi hi' => h (Fin.ext (((mem_slotSet s i).mp hi).symm.trans ((mem_slotSet s' i).mp hi')))
theorem slotSet_univ : (Finset.univ.biUnion fun s : Fin 32 => slotSet s) = Finset.univ := by
  ext i
  refine ⟨fun _ => Finset.mem_univ _, fun _ => Finset.mem_biUnion.mpr ⟨⟨(i 0).val, (i 0).isLt⟩, Finset.mem_univ _, ?_⟩⟩
  exact (mem_slotSet _ i).mpr rfl

/-! ## Contents -/

/-- What the pipeline stages on device `c`: its copies of the tokens and of the route, its block of the weights. -/
def xst (c : Dev nD) : Vec F S2048x512 .f32 := (win0_0.blk t0_0).view.read (Elt F) (m ((c : Thread nD τ).loc main_arg0))
def rst (c : Dev nD) : Vec F S2048x1 .i32 := (win0_1.blk t0_0).view.read (Elt F) (m ((c : Thread nD τ).loc main_arg2))
def wst (c : Dev nD) : Vec F S4x512x1024 .f32 := (win0_2.blk t0_0).view.read (Elt F) (m ((c : Thread nD τ).loc main_arg3))

theorem wl_inb : ∀ l : Fin 4, ∀ a, (![l.val, 0, 0] : Fin 3 → ℕ) a + S1x512x1024.size a ≤ S4x512x1024.size a := by decide

/-- One expert's weights as the kernel loads them. -/
def wl (c : Dev nD) (l : Fin 4) : Vec F S1x512x1024 .f32 :=
  wM.view.readAt (Elt F) (Rect.unit (s := S4x512x1024) ![l.val, 0, 0] S1x512x1024.size (wl_inb l)).toLoadRect (wst m c)

/-- Device `c`'s number as the kernel computes it. -/
def v2 (c : Dev nD) : BitVec 32 := Scalar.remsi (Scalar.divsi (Dev.word c) 1#32) 32#32

/-- The rows that device `c` stores for its expert `l`. -/
def blk (c : Dev nD) (l : Fin 4) : FVec F S1x1x12x1024 .bf16 :=
  match l with
  | ⟨0, _⟩ => k0_pay9 (k0_pay8 (k0_pay2 (v2 c) (rst m c)) (k0_pay3 (v2 c) (rst m c)) (k0_pay4 (F := F)) (xst m c)) (wl m c 0)
  | ⟨1, _⟩ => k0_pay10 (k0_pay2 (v2 c) (rst m c)) (k0_pay5 (k0_pay3 (v2 c) (rst m c)) (k0_pay4 (F := F))) (k0_pay6 (xst m c)) (k0_pay7 (F := F)) (wl m c 1)
  | ⟨2, _⟩ => k0_pay12 (k0_pay11 (k0_pay2 (v2 c) (rst m c)) (k0_pay5 (k0_pay3 (v2 c) (rst m c)) (k0_pay4 (F := F))) (k0_pay6 (xst m c)) (k0_pay7 (F := F))) (wl m c 2)
  | ⟨_ + 3, _⟩ => k0_pay13 (k0_pay2 (v2 c) (rst m c)) (k0_pay5 (k0_pay3 (v2 c) (rst m c)) (k0_pay4 (F := F))) (k0_pay6 (xst m c)) (k0_pay7 (F := F)) (wl m c 3)

theorem row_bound (i : S32x4x12x1024.Idx) : ∀ a : Fin 4, (![0, 0, (i 2).val, (i 3).val] : Fin 4 → ℕ) a < S1x1x12x1024.size a := by
  intro a
  have h2 : (i 2).val < 12 := (i 2).isLt
  have h3 : (i 3).val < 1024 := (i 3).isLt
  fin_cases a
  · exact Nat.one_pos
  · exact Nat.one_pos
  · exact h2
  · exact h3
/-- An index's row and column in the block it lies in. -/
def rowIdx (i : S32x4x12x1024.Idx) : S1x1x12x1024.Idx := fun a => ⟨(![0, 0, (i 2).val, (i 3).val] : Fin 4 → ℕ) a, row_bound i a⟩

/-- The gather buffer when full: slot `d` holds the four blocks of device `d`. -/
def GG : Vec F S32x4x12x1024 .bf16 := fun i => blk m ⟨(i 0).val, (i 0).isLt⟩ ⟨(i 1).val, (i 1).isLt⟩ (rowIdx i)

/-- Slot `s` of device `c`'s gather buffer at share `q`. -/
def slotPts (c : Dev nD) (s : Fin 32) (q : PosShare TreeShare) (f : Buf (Elt F) ((c : Thread nD τ).loc cc0_scratch0)) : sProp 𝕄 :=
  ((c : Thread nD τ).loc cc0_scratch0) ↦[slotSet s]{q} f

instance slotPts_storable (c : Dev nD) (s q f) : BI.Storable (upEmb : UEmb _ 𝕄) (slotPts (F := F) c s q f) := by unfold slotPts; infer_instance

/-! ## Shares of the sources -/

/-- The group of copies that read the same slot: those of the device's own slot, then the forwarded ones by where they came from. -/
def gid (k : Fin 31) : Fin 4 := if k.val < 10 then 0 else ⟨((k.val - 10) / 7 + 1) % 4, Nat.mod_lt _ (by decide)⟩
def grp (g : Fin 4) : Finset (Fin 31) := Finset.univ.filter fun k => gid k = g
theorem grp_nonempty : ∀ g, (grp g).Nonempty := by decide +kernel

/-- The piece of its source slot that copy `k` of device `c` reads through. -/
def piece (c : Dev nD) (k : Fin 31) : sProp 𝕄 := slotPts c (sl k c) (Transfers.dealOf fullShare (grp (gid k)) k) (GG m)

instance piece_storable (c : Dev nD) (k) : BI.Storable (upEmb : UEmb _ 𝕄) (piece (F := F) m c k) := by unfold piece; infer_instance

theorem deal (c : Dev nD) (g : Fin 4) (s : Fin 32) (h : ∀ k ∈ grp g, sl k c = s) :
    (slotPts c s fullShare (GG m) : sProp 𝕄) = bigSep (grp g) (piece m c) := by
  unfold slotPts
  rw [Transfers.pointsTo_deal (grp g) (grp_nonempty g) fullShare]
  refine bigSep_congr fun k hk => ?_
  have hg : gid k = g := (Finset.mem_filter.mp hk).2
  unfold piece slotPts
  rw [h k hk, hg]

theorem sl_grp0 (c : Dev nD) : ∀ k ∈ grp 0, sl k c = ⟨c.val, c.isLt⟩ := by
  intro k hk
  refine sl_own k c ?_
  revert hk; revert k; decide +kernel
theorem sl_grpS (c : Dev nD) (b : Fin 3) : ∀ k ∈ grp b.succ, sl k c = rslot ⟨7 + b.val, by omega⟩ c := by
  intro k hk
  have : 10 + 7 * b.val ≤ k.val ∧ k.val < 17 + 7 * b.val := by revert hk; revert k b; decide +kernel
  exact sl_fwd k c b this.1 this.2

/-! ## The schedule -/

/-- What device `d`, signalling `e`, hands over for copy `k`: the slot that `e` fills with it, if it goes to `d`. -/
def barOne (e d : Dev nD) (k : Fin 31) : sProp 𝕄 := if tgt k e = d then iprop(∃ f, slotPts d (sl k e) fullShare f) else iprop(emp)
def barPay (e d : Dev nD) : sProp 𝕄 := bigSep Finset.univ (barOne (F := F) e d)
def recvPay (k : Fin 31) (c : Dev nD) : sProp 𝕄 := slotPts c (rslot k c) fullShare (GG m)

instance barOne_storable (e d : Dev nD) (k) : BI.Storable (upEmb : UEmb _ 𝕄) (barOne (F := F) e d k) := by
  unfold barOne; split <;> infer_instance
instance barPay_storable (e d : Dev nD) : BI.Storable (upEmb : UEmb _ 𝕄) (barPay (F := F) e d) := by unfold barPay; infer_instance
instance recvPay_storable (k) (c : Dev nD) : BI.Storable (upEmb : UEmb _ 𝕄) (recvPay (F := F) m k c) := by unfold recvPay; infer_instance

set_option backward.proofsInPublic true in
/-- The one duty of a send or receive cell. -/
def d₀ : Dev nD := ⟨0, by decide⟩

def dutiesOf (c : Dev nD) : SemLoc sig → Finset (Dev nD)
  | .reg _ => Finset.univ.erase c
  | .dma q => if 4 ≤ q.val then {d₀} else ∅
def amountAt : SemLoc sig → ℕ
  | .reg _ => 1
  | .dma _ => N
def payOf (c d : Dev nD) : SemLoc sig → sProp 𝕄
  | .reg _ => barPay c d
  | .dma q => if isSend q then piece m c (copyOf q) else recvPay m (copyOf q) c

def Rd : Rounds.Schedule (GSem nD τ sig) (Dev nD) 𝕄 where
  duties g r := if r = 0 ∧ g.1.2 = .tc then dutiesOf g.1.1 g.2 else ∅
  unitless _ := False
  amount g _ _ := amountAt g.2
  payload g _ d := payOf m g.1.1 d g.2
  amount_pos g _ _ _ := by
    rcases g with ⟨t, s | q⟩
    · exact Nat.one_pos
    · exact N_pos

instance payOf_storable (c d : Dev nD) (s : SemLoc sig) : BI.Storable (upEmb : UEmb _ 𝕄) (payOf (F := F) m c d s) := by
  cases s <;> unfold payOf
  · infer_instance
  · dsimp only; split <;> infer_instance
instance Rd_storable (g : GSem nD τ sig) (r : ℕ) (d : Dev nD) :
    BI.Storable (upEmb : UEmb _ 𝕄) ((Rd (F := F) m).payload g r d) := payOf_storable m g.1.1 d g.2

/-- A doubly indexed family that is nothing but for one `f j` at each `j`: the family along `f`. -/
theorem bigSep_along {I J : Type} [DecidableEq I] [DecidableEq J] (S : Finset I) (T : Finset J) (f : J → I) (Φ Ψ : I → J → sProp 𝕄)
    (h : ∀ j ∈ T, f j ∈ S ∧ ∀ i ∈ S, Φ i j = if i = f j then Ψ i j else iprop(emp)) :
    (bigSep S fun i => bigSep T fun j => Φ i j) = bigSep T fun j => Ψ (f j) j := by
  induction T using Finset.induction_on with
  | empty => simp only [bigSep_empty, bigSep_emp_const]
  | insert j T hj ih =>
    have h1 : bigSep S (fun i => Φ i j) = Ψ (f j) j := by
      obtain ⟨hm, he⟩ := h j (Finset.mem_insert_self _ _)
      have e : S.filter (fun i => i = f j) = {f j} := by
        ext i; simp only [Finset.mem_filter, Finset.mem_singleton]
        exact ⟨fun h => h.2, fun h => ⟨h ▸ hm, h⟩⟩
      have e2 := bigSep_filter S (fun i => i = f j) (fun i => Ψ i j)
      rw [e, bigSep_singleton] at e2
      rw [bigSep_congr he]; exact e2.symm
    rw [bigSep_congr (s := S) (fun i _ => bigSep_insert hj (Φ := fun j => Φ i j)), bigSep_sep, h1,
      ih (fun j hj => h j (Finset.mem_insert_of_mem hj)), bigSep_insert hj]

section Facts
variable (c : Dev nD) (k : Fin 31)

theorem duties_bar : (Rd (F := F) m).duties (barCell c) 0 = Finset.univ.erase c := by
  dsimp only [Rd]; exact if_pos ⟨rfl, rfl⟩
theorem duties_send : (Rd (F := F) m).duties (sendCell k c) 0 = {d₀} := by
  dsimp only [Rd]; exact (if_pos ⟨rfl, rfl⟩).trans (if_pos (send_ge k))
theorem duties_recv : (Rd (F := F) m).duties (recvCell k c) 0 = {d₀} := by
  dsimp only [Rd]; exact (if_pos ⟨rfl, rfl⟩).trans (if_pos (recv_ge k))
theorem duties_later (g : GSem nD τ sig) : ∀ r, 1 ≤ r → (Rd (F := F) m).duties g r = ∅ := fun r hr => if_neg fun h => by omega

theorem amount_bar (d : Dev nD) : (Rd (F := F) m).amount (barCell c) 0 d = 1 := rfl
theorem amount_send (d : Dev nD) : (Rd (F := F) m).amount (sendCell k c) 0 d = N := rfl
theorem amount_recv (d : Dev nD) : (Rd (F := F) m).amount (recvCell k c) 0 d = N := rfl

theorem expect_bar : (Rd (F := F) m).expect (barCell c) 0 = 31 := by
  unfold Schedule.expect Schedule.amountOf
  rw [duties_bar, Finset.sum_congr rfl fun d _ => amount_bar m c d, Finset.sum_const, Finset.card_erase_of_mem (Finset.mem_univ _), Finset.card_univ]
  rfl
theorem expect_send : (Rd (F := F) m).expect (sendCell k c) 0 = N := by
  unfold Schedule.expect Schedule.amountOf; rw [duties_send, Finset.sum_singleton, amount_send]
theorem expect_recv : (Rd (F := F) m).expect (recvCell k c) 0 = N := by
  unfold Schedule.expect Schedule.amountOf; rw [duties_recv, Finset.sum_singleton, amount_recv]

theorem payload_bar (d : Dev nD) : (Rd (F := F) m).payload (barCell c) 0 d = barPay c d := rfl
theorem payload_send (d : Dev nD) : (Rd (F := F) m).payload (sendCell k c) 0 d = piece m c k := by
  show (if isSend (sendS k) then piece m c (copyOf (sendS k)) else recvPay m (copyOf (sendS k)) c) = _
  rw [isSend_send, copyOf_send]; rfl
theorem payload_recv (d : Dev nD) : (Rd (F := F) m).payload (recvCell k c) 0 d = recvPay m k c := by
  show (if isSend (recvS k) then piece m c (copyOf (recvS k)) else recvPay m (copyOf (recvS k)) c) = _
  rw [isSend_recv, copyOf_recv]; rfl

theorem rest_send : bigSep ((Rd (F := F) m).duties (sendCell k c) 0 \ ∅) (fun d => (Rd (F := F) m).payload (sendCell k c) 0 d) = piece m c k := by
  rw [Finset.sdiff_empty, duties_send, bigSep_singleton, payload_send]
theorem rest_recv : bigSep ((Rd (F := F) m).duties (recvCell k c) 0 \ ∅) (fun d => (Rd (F := F) m).payload (recvCell k c) 0 d) = recvPay m k c := by
  rw [Finset.sdiff_empty, duties_recv, bigSep_singleton, payload_recv]

/-- All the signals to `c` together hand it the slots it fills, one per copy it sends. -/
theorem rest_bar : bigSep ((Rd (F := F) m).duties (barCell c) 0 \ ∅) (fun d => (Rd (F := F) m).payload (barCell c) 0 d)
    = bigSep Finset.univ fun k => iprop(∃ f, slotPts (F := F) (tgt k c) (sl k c) fullShare f) := by
  rw [Finset.sdiff_empty, duties_bar]
  show bigSep (Finset.univ.erase c) (fun d => bigSep Finset.univ fun k => barOne (F := F) c d k) = _
  refine bigSep_along _ _ (fun k => tgt k c) _ (fun d k => iprop(∃ f, slotPts (F := F) d (sl k c) fullShare f)) fun k _ =>
    ⟨Finset.mem_erase.mpr ⟨tgt_ne k c, Finset.mem_univ _⟩, fun d _ => ?_⟩
  unfold barOne
  by_cases h : tgt k c = d
  · rw [if_pos h, if_pos h.symm]
  · rw [if_neg h, if_neg fun h' => h h'.symm]

/-- The slots that arrive on `c` are dealt out over its 31 signals. -/
theorem supply_bar : (bigSep Finset.univ fun k => iprop(∃ f, slotPts (F := F) c (rslot k c) fullShare f))
    = bigSep Finset.univ fun i => barPay (F := F) (sh i c) c := by
  unfold barPay
  refine ((bigSep_along _ _ (fun k => ix k c) _ (fun i k => iprop(∃ f, slotPts (F := F) c (sl k (sh i c)) fullShare f)) fun k _ =>
    ⟨Finset.mem_univ _, fun i _ => ?_⟩).trans ?_).symm
  · unfold barOne
    by_cases h : tgt k (sh i c) = c
    · rw [if_pos h, if_pos ((ix_unique k c i).mp h)]
    · rw [if_neg h, if_neg fun h' => h ((ix_unique k c i).mpr h')]
  · exact bigSep_congr fun k _ => by rw [sh_ix]; rfl

end Facts

/-! ## What is owed; the levels -/

def toSend (n : ℕ) : Finset (Fin 31) := Finset.univ.filter fun k => n ≤ k.val

/-- Owed for the copies from number `n` on: each one's credit on its target's receive cell. -/
def Ow (n : ℕ) (c : Dev nD) : CellTallies nD τ sig Unit := ∑ k ∈ toSend n, tallyAt (recvCell k (tgt k c)) () N
/-- Owed before signal number `n`: that, and one unit on each device not yet signalled. -/
def Os (n : ℕ) (c : Dev nD) : CellTallies nD τ sig Unit := Ow 0 c + ∑ i ∈ toSend n, tallyAt (barCell (sh i c)) () 1
def O₀ (c : Dev nD) : CellTallies nD τ sig Unit := Os 0 c

theorem toSend_step (k : Fin 31) : toSend k.val = insert k (toSend (k.val + 1)) := by
  ext j; simp only [toSend, Finset.mem_insert, Finset.mem_filter, Finset.mem_univ, true_and, Fin.ext_iff]; omega
theorem notMem_toSend (k : Fin 31) : k ∉ toSend (k.val + 1) := by
  simp only [toSend, Finset.mem_filter, Finset.mem_univ, true_and]; omega
theorem toSend_end : toSend 31 = ∅ := by
  ext j; simp only [toSend, Finset.mem_filter, Finset.mem_univ, true_and, Finset.notMem_empty, iff_false]; omega
theorem toSend_zero : toSend 0 = Finset.univ := by ext j; simp [toSend]

theorem Ow_step (k : Fin 31) (c : Dev nD) : Ow k.val c = Ow (k.val + 1) c + tallyAt (recvCell k (tgt k c)) () N := by
  unfold Ow; rw [toSend_step, Finset.sum_insert (notMem_toSend k), add_comm]
theorem Os_step (i : Fin 31) (c : Dev nD) : Os i.val c = Os (i.val + 1) c + tallyAt (barCell (sh i c)) () 1 := by
  unfold Os; rw [toSend_step, Finset.sum_insert (notMem_toSend i), add_assoc, add_comm (tallyAt _ _ _)]
theorem Ow_end (c : Dev nD) : Ow 31 c = 0 := by unfold Ow; rw [toSend_end, Finset.sum_empty]
theorem Os_end (c : Dev nD) : Os 31 c = Ow 0 c := by unfold Os; rw [toSend_end, Finset.sum_empty, add_zero]

theorem sum_tally_apply {ι : Type} (S : Finset ι) (f : ι → CellTallies nD τ sig Unit) (g : GSem nD τ sig) (u : Unit) :
    (∑ i ∈ S, f i) g u = ∑ i ∈ S, f i g u := by
  rw [Finset.sum_apply, Finsupp.finset_sum_apply]

theorem Ow_pos {n : ℕ} {c : Dev nD} {g : GSem nD τ sig} {u : Unit} (h : 0 < Ow n c g u) :
    ∃ k : Fin 31, n ≤ k.val ∧ g = recvCell k (tgt k c) := by
  unfold Ow at h
  rw [sum_tally_apply] at h
  obtain ⟨k, hk, hp⟩ := Finset.exists_ne_zero_of_sum_ne_zero h.ne'
  refine ⟨k, (Finset.mem_filter.mp hk).2, ?_⟩
  rw [tallyAt_apply] at hp
  by_contra hn
  exact hp (if_neg fun h' => hn h'.1)

theorem Os_pos {n : ℕ} {c : Dev nD} {g : GSem nD τ sig} {u : Unit} (h : 0 < Os n c g u) :
    (∃ k : Fin 31, g = recvCell k (tgt k c)) ∨ ∃ i : Fin 31, g = barCell (sh i c) := by
  unfold Os at h
  rw [Pi.add_apply, Finsupp.add_apply] at h
  rcases Nat.eq_zero_or_pos (Ow 0 c g u) with h0 | h0
  · rw [h0, Nat.zero_add, sum_tally_apply] at h
    obtain ⟨k, hk, hp⟩ := Finset.exists_ne_zero_of_sum_ne_zero h.ne'
    refine Or.inr ⟨k, ?_⟩
    rw [tallyAt_apply] at hp
    by_contra hn
    exact hp (if_neg fun h' => hn h'.1)
  · obtain ⟨k, -, hk⟩ := Ow_pos h0
    exact Or.inl ⟨k, hk⟩

def L (g : GSem nD τ sig) : Finset Unit := if g.1.2 = .tc then {()} else ∅
/-- Barrier cells at 1, the receive cells of the copies across the planes at 2 (they are waited for while copies are still to be
    forwarded), those of the others at 3, staging and send cells at 0. -/
def lv (g : GSem nD τ sig) (_ : Unit) : ℕ :=
  match g.2 with
  | .reg _ => 1
  | .dma q => if q.val < 4 ∨ isSend q = true then 0 else if (copyOf q).val < 10 ∧ 7 ≤ (copyOf q).val then 2 else 3

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_send (k : Fin 31) (c : Dev nD) (u : Unit) : lv (sendCell k c) u = 0 := if_pos (Or.inr (isSend_send k))
theorem lv_recv (k : Fin 31) (c : Dev nD) (u : Unit) : lv (recvCell k c) u = if k.val < 10 ∧ 7 ≤ k.val then 2 else 3 := by
  show (if (recvS k).val < 4 ∨ isSend (recvS k) = true then 0 else if (copyOf (recvS k)).val < 10 ∧ 7 ≤ (copyOf (recvS k)).val then 2 else 3) = _
  rw [if_neg (fun h => h.elim (fun h => absurd (recv_ge k) (by omega)) fun h => by rw [isSend_recv] at h; exact absurd h (by decide)), copyOf_recv]
theorem lv_recv_ge (k : Fin 31) (c : Dev nD) (u : Unit) : 2 ≤ lv (recvCell k c) u := by rw [lv_recv]; split <;> decide

/-- A staging semaphore may be waited on at launch, and at the end. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Os_pos hg with ⟨k, rfl⟩ | ⟨i, rfl⟩ <;> exact Finset.mem_singleton_self _)
      (fun p hp => by rw [Finset.mem_singleton.mp hp]; exact (if_pos (Or.inl hq)).le)
      (fun g u hg => by
        rcases Os_pos hg with ⟨k, rfl⟩ | ⟨i, rfl⟩
        · exact lt_of_lt_of_le (by decide) (lv_recv_ge k _ u)
        · rw [lv_bar]; decide)
  · rw [MayWait_zero]; iintro -; iempintro

/-- A wait on cell `(c, sm)` is allowed while only copies from `n` on are owed, all of them above its level. -/
theorem mayWait_copies (c : Dev nD) (sm : SemLoc sig) (n : ℕ) (h : ∀ k : Fin 31, n ≤ k.val → lv ((c : Thread nD τ), sm) () < lv (recvCell k (tgt k c)) ()) :
    (levAts L lv : sProp 𝕄) ⊢ MayWait (c : Thread nD τ) sm () (Ow n c) :=
  MayOwe.of_cut (L := L) (lev := lv) (lv ((c : Thread nD τ), sm) ()) (fun p hp => by rw [Finset.mem_singleton.mp hp, L_tc]; exact Finset.mem_singleton_self _)
    (fun g u hg => by obtain ⟨k, -, rfl⟩ := Ow_pos hg; exact Finset.mem_singleton_self _)
    (fun p hp => by rw [Finset.mem_singleton.mp hp])
    (fun g u hg => by obtain ⟨k, hk, rfl⟩ := Ow_pos hg; exact h k hk)

theorem mayWait_bar (c : Dev nD) : (levAts L lv : sProp 𝕄) ⊢ MayWait (c : Thread nD τ) (.reg barS) () (Ow 0 c) :=
  mayWait_copies c _ 0 fun k _ => by rw [lv_bar]; exact lt_of_lt_of_le (by decide) (lv_recv_ge k _ ())
theorem mayWait_send (c : Dev nD) (k : Fin 31) (n : ℕ) : (levAts L lv : sProp 𝕄) ⊢ MayWait (c : Thread nD τ) (.dma (sendS k)) () (Ow n c) :=
  mayWait_copies c _ n fun k' _ => by rw [lv_send]; exact lt_of_lt_of_le (by decide) (lv_recv_ge k' _ ())
theorem mayWait_recv (c : Dev nD) (k : Fin 31) (n : ℕ) (h : 31 ≤ n ∨ (10 ≤ n ∧ k.val < 10 ∧ 7 ≤ k.val)) :
    (levAts L lv : sProp 𝕄) ⊢ MayWait (c : Thread nD τ) (.dma (recvS k)) () (Ow n c) :=
  mayWait_copies c _ n fun k' hk' => by
    rcases h with h | ⟨h, h1⟩
    · exact absurd k'.isLt (by omega)
    · rw [lv_recv, lv_recv, if_pos h1, if_neg (by omega)]; decide

end Cert.Moe

end
-- ==== Proof.Steps.lean ====
/-
# One lemma per kind of step

The signals, the remote copies and the waits of the kernel change what a device holds in a uniform way. `Sig` is what it holds while
signalling, `X c n w v` what it holds when `n` copies have been started and `w` send waits and `v` receive waits are over (counted
in the order in which they come, `pos`). Each step of the program moves one counter by one.
-/
module

public import proofs.«01_k».proof.Proof.Sched

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem bigSep_ins {ι : Type} [DecidableEq ι] {s : Finset ι} {i : ι} (h : i ∉ s) (Φ : ι → sProp 𝕄) :
    bigSep (insert i s) Φ = iprop(Φ i ∗ bigSep s Φ) := bigSep_insert h
theorem bigSep_uni {ι : Type} [DecidableEq ι] {s t : Finset ι} (h : Disjoint s t) (Φ : ι → sProp 𝕄) :
    bigSep (s ∪ t) Φ = iprop(bigSep s Φ ∗ bigSep t Φ) := bigSep_union h

abbrev 𝒱₀ : Variants := Variants.none

/-! ## The records: every cell's invariant, and that every cell has reached its round -/

/-- The cells of a device: its barrier cell, its send cells, its receive cells. -/
inductive Cell : Type
  | bar | send (k : Fin 31) | recv (k : Fin 31)
  deriving DecidableEq

def csem : Cell → SemLoc sig
  | .bar => .reg barS
  | .send k => .dma (sendS k)
  | .recv k => .dma (recvS k)

def cellEquiv : Option (Fin 31 ⊕ Fin 31) ≃ Cell where
  toFun | none => .bar | some (.inl k) => .send k | some (.inr k) => .recv k
  invFun | .bar => none | .send k => some (.inl k) | .recv k => some (.inr k)
  left_inv x := by rcases x with _ | k | k <;> rfl
  right_inv x := by cases x <;> rfl

instance : Fintype Cell := Fintype.ofEquiv _ cellEquiv

abbrev kcell (ck : Dev nD × Cell) : GSem nD τ sig := ((ck.1 : Thread nD τ), csem ck.2)

variable (K : Dev nD × Cell → ℕ)

def records : sProp 𝕄 :=
  iprop((bigSep Finset.univ fun ck : Dev nD × Cell => cellInv EG (Rd m) (K ck) (kcell ck))
    ∗ bigSep Finset.univ fun ck : Dev nD × Cell => reached EG (kcell ck) 0)

instance records_persistent : BI.Persistent (records m K) := by unfold records; infer_instance

theorem inv_at (ck : Dev nD × Cell) : (records m K : sProp 𝕄) ⊢ cellInv EG (Rd m) (K ck) (kcell ck) := by
  unfold records
  iintro ⟨H, -⟩
  iapply (show (bigSep Finset.univ fun ck : Dev nD × Cell => (cellInv EG (Rd m) (K ck) (kcell ck) : sProp 𝕄)) ⊢ cellInv EG (Rd m) (K ck) (kcell ck) from
    bigSep_elim (Finset.mem_univ ck))
  iexact H
theorem reached_at (ck : Dev nD × Cell) : (records m K : sProp 𝕄) ⊢ reached EG (kcell ck) 0 := by
  unfold records
  iintro ⟨-, H⟩
  iapply (show (bigSep Finset.univ fun ck : Dev nD × Cell => (reached EG (kcell ck) 0 : sProp 𝕄)) ⊢ reached EG (kcell ck) 0 from
    bigSep_elim (Finset.mem_univ ck))
  iexact H

/-! ## Signalling -/

def sigTok (c : Dev nD) (i : Fin 31) : sProp 𝕄 := iprop(dutyTok EG (barCell (sh i c)) 0 c ∗ barPay (sh i c) c)

/-- What device `c` holds before signal number `n`. -/
def Sig (c : Dev nD) (n : ℕ) : sProp 𝕄 :=
  iprop(records m K ∗ (∃ W, owes (c : Thread nD τ) (Os n c) W) ∗ bigSep (toSend n) (sigTok c))

theorem step_signal (c : Dev nD) (n : ℕ) (i : Fin 31) (hn : i.val = n) (d : Dev nD) (hd : d.val = (c.val + (i.val + 1)) % 32)
    {k' : ℕ} (hk : k' = 1) {α : Type} {Q : α → sProp 𝕄} {k : PUnit → Prog (TpuEff nD τ sig (Elt F) Λ₀ .tc) α} :
    Sig m K c n
      ⊢ iprop((Sig m K c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d, (c : Thread nD τ).2) barS k') k) Q) := by
  obtain rfl : d = sh i c := Fin.ext hd
  subst hn hk
  unfold Sig
  rw [toSend_step, bigSep_ins (notMem_toSend i)]
  iintro ⟨#HR, ⟨%W, HO⟩, HT, Hrest⟩ Hk
  unfold sigTok
  icases HT with ⟨Htok, Hpay⟩
  iapply (Rounds.wp_signal 𝒱₀ EG (Rd m) (c : Thread nD τ) none (dst := (sh i c : Thread nD τ)) (κ := K (sh i c, .bar))
      (d := c) (by rw [duties_bar]; exact Finset.mem_erase.mpr ⟨(sh_ne i c).symm, Finset.mem_univ _⟩) (amount_bar m (sh i c) c) () (Os (i.val + 1) c) (Os_step i c))
    $$ [HO Htok Hpay]
  · isplitr; · iapply (inv_at m K (sh i c, .bar)); iexact HR
    isplitl [HO]; · iexact HO
    isplitl [Htok]; · iexact Htok
    isplitl [Hpay]; · iapply (Entails.of_eq (payload_bar m (sh i c) c).symm); iexact Hpay
    iapply (reached_at m K (sh i c, .bar)); iexact HR
  iintro HO
  iapply Hk
  isplitr; · iexact HR
  isplitl [HO]; · iexists W; iexact HO
  iexact Hrest

/-! ## Copying and waiting -/

def atHand (n v : ℕ) : Finset (Fin 31) := Finset.univ.filter fun k => n ≤ k.val ∧ k.val < 10 + 7 * v
def sent (n w : ℕ) : Finset (Fin 31) := Finset.univ.filter fun k => k.val < n ∧ w ≤ pos k
def ahead (w : ℕ) : Finset (Fin 31) := Finset.univ.filter fun k => w ≤ pos k
def past (w : ℕ) : Finset (Fin 31) := Finset.univ.filter fun k => pos k < w
def kept (v : ℕ) : Finset (Fin 31) := Finset.univ.filter fun k => 3 ≤ pos k ∧ pos k < v

theorem pos_plane : ∀ b : Fin 3, pos ⟨7 + b.val, by omega⟩ = b.val := by decide
theorem pos_eq_iff (k j : Fin 31) : pos j = pos k ↔ j = k := ⟨pos_inj j k, fun h => h ▸ rfl⟩

theorem atHand_step (k : Fin 31) (v : ℕ) (h : k.val < 10 + 7 * v) : atHand k.val v = insert k (atHand (k.val + 1) v) := by
  ext j; simp only [atHand, Finset.mem_insert, Finset.mem_filter, Finset.mem_univ, true_and, Fin.ext_iff]; omega
theorem notMem_atHand (k : Fin 31) (v : ℕ) : k ∉ atHand (k.val + 1) v := by
  simp only [atHand, Finset.mem_filter, Finset.mem_univ, true_and]; omega
theorem sent_step (k : Fin 31) (w : ℕ) (h : w ≤ pos k) : sent (k.val + 1) w = insert k (sent k.val w) := by
  ext j; simp only [sent, Finset.mem_insert, Finset.mem_filter, Finset.mem_univ, true_and]
  constructor
  · rintro ⟨h1, h2⟩
    by_cases e : j = k
    · exact Or.inl e
    · exact Or.inr ⟨by have : j.val ≠ k.val := fun h => e (Fin.ext h); omega, h2⟩
  · rintro (rfl | ⟨h1, h2⟩)
    · exact ⟨by omega, h⟩
    · exact ⟨by omega, h2⟩
theorem notMem_sent (k : Fin 31) (w : ℕ) : k ∉ sent k.val w := by
  simp only [sent, Finset.mem_filter, Finset.mem_univ, true_and]; omega
theorem sent_wait (k : Fin 31) (n : ℕ) (h : k.val < n) : sent n (pos k) = insert k (sent n (pos k + 1)) := by
  ext j; simp only [sent, Finset.mem_insert, Finset.mem_filter, Finset.mem_univ, true_and]
  rw [← pos_eq_iff k j]
  constructor
  · rintro ⟨h1, h2⟩; omega
  · rintro (h1 | ⟨h1, h2⟩)
    · rw [pos_eq_iff] at h1; subst h1; exact ⟨h, le_rfl⟩
    · omega
theorem notMem_sent_wait (k : Fin 31) (n : ℕ) : k ∉ sent n (pos k + 1) := by
  simp only [sent, Finset.mem_filter, Finset.mem_univ, true_and]; omega
theorem ahead_step (k : Fin 31) : ahead (pos k) = insert k (ahead (pos k + 1)) := by
  ext j; simp only [ahead, Finset.mem_insert, Finset.mem_filter, Finset.mem_univ, true_and]; rw [← pos_eq_iff k j]; omega
theorem notMem_ahead (k : Fin 31) : k ∉ ahead (pos k + 1) := by
  simp only [ahead, Finset.mem_filter, Finset.mem_univ, true_and]; omega
theorem past_step (k : Fin 31) : past (pos k + 1) = insert k (past (pos k)) := by
  ext j; simp only [past, Finset.mem_insert, Finset.mem_filter, Finset.mem_univ, true_and]; rw [← pos_eq_iff k j]; omega
theorem notMem_past (k : Fin 31) : k ∉ past (pos k) := by
  simp only [past, Finset.mem_filter, Finset.mem_univ, true_and]; omega
theorem kept_step (k : Fin 31) (h : 3 ≤ pos k) : kept (pos k + 1) = insert k (kept (pos k)) := by
  ext j; simp only [kept, Finset.mem_insert, Finset.mem_filter, Finset.mem_univ, true_and]; rw [← pos_eq_iff k j]; omega
theorem notMem_kept (k : Fin 31) : k ∉ kept (pos k) := by
  simp only [kept, Finset.mem_filter, Finset.mem_univ, true_and]; omega
theorem kept_small (v : ℕ) (h : v ≤ 3) : kept v = ∅ := by
  ext j; simp only [kept, Finset.mem_filter, Finset.mem_univ, true_and, Finset.notMem_empty, iff_false]; omega
theorem atHand_end (v : ℕ) : atHand 31 v = ∅ := by
  ext j; simp only [atHand, Finset.mem_filter, Finset.mem_univ, true_and, Finset.notMem_empty, iff_false]; omega
theorem mem_grpS : ∀ (b : Fin 3) (k : Fin 31), k ∈ grp b.succ ↔ 10 + 7 * b.val ≤ k.val ∧ k.val < 17 + 7 * b.val := by decide +kernel
theorem atHand_recv (b : Fin 3) (n : ℕ) (h : n ≤ 10 + 7 * b.val) : atHand n (b.val + 1) = atHand n b.val ∪ grp b.succ := by
  ext j; simp only [Finset.mem_union, mem_grpS, atHand, Finset.mem_filter, Finset.mem_univ, true_and]; omega
theorem atHand_disj (b : Fin 3) (n : ℕ) : Disjoint (atHand n b.val) (grp b.succ) :=
  Finset.disjoint_left.mpr fun j h h' => by
    rw [mem_grpS] at h'; simp only [atHand, Finset.mem_filter, Finset.mem_univ, true_and] at h; omega

/-- What starting copy `k` takes besides its piece of the source: the two duties and the slot it fills. -/
def sendTok (c : Dev nD) (k : Fin 31) : sProp 𝕄 :=
  iprop(dutyTok EG (sendCell k c) 0 d₀ ∗ dutyTok EG (recvCell k (tgt k c)) 0 d₀ ∗ ∃ f, slotPts (tgt k c) (sl k c) fullShare f)

/-- What device `c` holds when `n` copies are started and `w` send waits and `v` receive waits are over. -/
def X (c : Dev nD) (n w v : ℕ) : sProp 𝕄 :=
  iprop(records m K ∗ levAts L lv
    ∗ (∃ W, owes (c : Thread nD τ) (Ow n c) W)
    ∗ bigSep (toSend n) (sendTok c)
    ∗ bigSep (atHand n v) (piece m c)
    ∗ bigSep (sent n w) (fun k => cred (tallyAt (sendCell k c) () N))
    ∗ bigSep (ahead w) (fun k => atPos EG (sendCell k c) 0 ∅ 0)
    ∗ bigSep (past w) (fun k => iprop(semVal (sendCell k c) 0 ∗ piece m c k))
    ∗ bigSep (ahead v) (fun k => iprop(atPos EG (recvCell k c) 0 ∅ 0 ∗ cred (tallyAt (recvCell k c) () N)))
    ∗ bigSep (past v) (fun k => semVal (recvCell k c) 0)
    ∗ bigSep (kept v) (fun k => slotPts c (rslot k c) fullShare (GG m)))

/-- What lands in slot `s`, read from slot `s` of a full buffer, is what a full buffer holds there. -/
theorem landed (s : Fin 32) (fd fs : Vec F S32x4x12x1024 .bf16) (i : S32x4x12x1024.Idx) (hi : i ∈ slotSet s) :
    (slotM s).view.write (Elt F) fd ((slotM s).view.read (Elt F) fs) Finset.univ i = fs i := by
  rw [View.write_read_eq_piecewise, View.setOn_univ]
  exact Finset.piecewise_eq_of_mem _ _ _ ((slotM_set s).symm ▸ hi)

theorem send_raw (c : Dev nD) (k : Fin 31) (fd : Buf (Elt F) ((tgt k c : Thread nD τ).loc cc0_scratch0)) (W : Waits sig Unit)
    {hsc : (slotM (sl k c) : Memref sig (Dev.tc (tgt k c) : Thread nD τ).2.kind .vmem S1x4x12x1024 .bf16).view.ref.isScScratch = false}
    {hsrc : (slotM (sl k c)).view.WordExact} {hdst : (slotM (sl k c)).view.WordExact}
    {hsem : DmaTarget.Typed .vmem (.dma (recvS k)) (.remote (Dev.tc (tgt k c) : Thread nD τ) (slotM (sl k c)) (.dma (sendS k)) hsc)}
    {α : Type} {Q : α → sProp 𝕄} {kk : PUnit → Prog (TpuEff nD τ sig (Elt F) Λ₀ .tc) α} :
    iprop(cellInv EG (Rd m) (K (c, .send k)) (sendCell k c) ∗ cellInv EG (Rd m) (K (tgt k c, .recv k)) (recvCell k (tgt k c))
        ∗ piece m c k ∗ slotPts (tgt k c) (sl k c) fullShare fd ∗ owes (c : Thread nD τ) (Ow k.val c) W
        ∗ dutyTok EG (sendCell k c) 0 d₀ ∗ reached EG (sendCell k c) 0
        ∗ dutyTok EG (recvCell k (tgt k c)) 0 d₀ ∗ reached EG (recvCell k (tgt k c)) 0)
      ⊢ iprop(((cred (tallyAt (sendCell k c) () N) ∗ owes (c : Thread nD τ) (Ow (k.val + 1) c) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM (sl k c)) (.remote (Dev.tc (tgt k c) : Thread nD τ) (slotM (sl k c)) (.dma (sendS k)) hsc)
                (.dma (recvS k)) hsrc hdst hsem) kk) Q) := by
  have hpay₁ : ((slotM (sl k c)).view.loc (c : Thread nD τ) ↦[(slotM (sl k c)).view.set]{Transfers.dealOf fullShare (grp (gid k)) k} (GG m) : sProp 𝕄)
      = piece m c k := by
    rw [slotM_set]; rfl
  have hdst' : ∀ f, ((slotM (sl k c)).view.loc (tgt k c : Thread nD τ) ↦[(slotM (sl k c)).view.set]{fullShare} f : sProp 𝕄)
      = slotPts (tgt k c) (sl k c) fullShare f := by
    intro f; rw [slotM_set]; rfl
  rw [← hpay₁, ← hdst' fd]
  have h1 : d₀ ∈ (Rd (F := F) m).duties (sendCell k c) 0 := by rw [duties_send]; exact Finset.mem_singleton_self _
  have h2 : d₀ ∈ (Rd (F := F) m).duties (recvCell k (tgt k c)) 0 := by rw [duties_recv]; exact Finset.mem_singleton_self _
  have h3 : ((slotM (sl k c)).view.loc (c : Thread nD τ) ↦[(slotM (sl k c)).view.set]{Transfers.dealOf fullShare (grp (gid k)) k} (GG m) : sProp 𝕄)
      ⊢ (Rd m).payload (sendCell k c) 0 d₀ := by rw [payload_send, hpay₁]
  have h4 : ((slotM (sl k c)).view.loc (tgt k c : Thread nD τ) ↦[(slotM (sl k c)).view.set]{fullShare}
        ((slotM (sl k c)).view.write (Elt F) fd ((slotM (sl k c)).view.read (Elt F) (GG m)) Finset.univ) : sProp 𝕄)
      ⊢ (Rd m).payload (recvCell k (tgt k c)) 0 d₀ := by
    rw [payload_recv, hdst']; unfold recvPay slotPts; rw [rslot_tgt]
    exact Entails.of_eq (pointsTo_congr fun i hi => landed (sl k c) fd (GG m) i hi)
  have h5 : (slotM (sl k c)).view.amount (.dma (recvS k)) = N := rfl
  exact Rounds.wp_send_pointsTo 𝒱₀ EG (Rd m) (c : Thread nD τ) none (κ₁ := K (c, .send k)) (κ₂ := K (tgt k c, .recv k))
    (c' := (tgt k c : Thread nD τ)) (src := slotM (sl k c)) (dst := slotM (sl k c)) (r₁ := 0) (r₂ := 0) (d₁ := d₀) (d₂ := d₀) (fd := fd)
    h1 h2 () () N h5 (amount_send m c k d₀) (amount_recv m (tgt k c) k d₀) (Ow (k.val + 1) c) (Ow_step k c) (W := W) h3 h4

theorem step_send (c : Dev nD) (n w v : ℕ) (k : Fin 31) (hn : k.val = n) (off : Fin 4 → ℕ)
    {inb : ∀ a, off a + S1x4x12x1024.size a ≤ S32x4x12x1024.size a} (hoff : off = ![(sl k c).val, 0, 0, 0])
    (d : Dev nD) (hd : d.val = tgtN k.val c.val) {sS sV : DmaSem sig} (hS : sS = sendS k) (hV : sV = recvS k)
    (hw : w ≤ pos k) (hv : k.val < 10 + 7 * v)
    {hsc : (gM.slice (Rect.unit (s := S32x4x12x1024) off S1x4x12x1024.size inb) (fun _ => rfl) : Memref sig (Dev.tc d : Thread nD τ).2.kind .vmem S1x4x12x1024 .bf16).view.ref.isScScratch = false}
    {hsrc : (gM.slice (Rect.unit (s := S32x4x12x1024) off S1x4x12x1024.size inb) (fun _ => rfl) : Memref sig .tc .vmem S1x4x12x1024 .bf16).view.WordExact}
    {hdst : (gM.slice (Rect.unit (s := S32x4x12x1024) off S1x4x12x1024.size inb) (fun _ => rfl) : Memref sig .tc .vmem S1x4x12x1024 .bf16).view.WordExact}
    {hsem : DmaTarget.Typed .vmem (.dma sV) (.remote (Dev.tc d : Thread nD τ) (gM.slice (Rect.unit (s := S32x4x12x1024) off S1x4x12x1024.size inb) (fun _ => rfl) : Memref sig .tc .vmem S1x4x12x1024 .bf16) (.dma sS) hsc)}
    {α : Type} {Q : α → sProp 𝕄} {kk : PUnit → Prog (TpuEff nD τ sig (Elt F) Λ₀ .tc) α} :
    X m K c n w v
      ⊢ iprop((X m K c (n + 1) w v -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (gM.slice (Rect.unit (s := S32x4x12x1024) off S1x4x12x1024.size inb) (fun _ => rfl) : Memref sig .tc .vmem S1x4x12x1024 .bf16)
                (.remote (Dev.tc d : Thread nD τ) (gM.slice (Rect.unit (s := S32x4x12x1024) off S1x4x12x1024.size inb) (fun _ => rfl) : Memref sig .tc .vmem S1x4x12x1024 .bf16) (.dma sS) hsc)
                (.dma sV) hsrc hdst hsem) kk) Q) := by
  obtain rfl : d = tgt k c := Fin.ext hd
  subst hn hoff hS hV
  unfold X
  rw [toSend_step, bigSep_ins (notMem_toSend k), atHand_step k v hv, bigSep_ins (notMem_atHand k v), sent_step k w hw, bigSep_ins (notMem_sent k w)]
  iintro ⟨#HR, #HL, ⟨%W, HO⟩, ⟨HT, HTs⟩, ⟨HP, HPs⟩, Hcr, HA, HPa, HB, HPb, HKp⟩ Hk
  unfold sendTok
  icases HT with ⟨HtS, HtV, ⟨%fd, Hd⟩⟩
  iapply (send_raw m K c k fd W) $$ [HO HtS HtV Hd HP]
  · isplitr; · iapply (inv_at m K (c, .send k)); iexact HR
    isplitr; · iapply (inv_at m K (tgt k c, .recv k)); iexact HR
    isplitl [HP]; · iexact HP
    isplitl [Hd]; · iexact Hd
    isplitl [HO]; · iexact HO
    isplitl [HtS]; · iexact HtS
    isplitr; · iapply (reached_at m K (c, .send k)); iexact HR
    isplitl [HtV]; · iexact HtV
    iapply (reached_at m K (tgt k c, .recv k)); iexact HR
  iintro ⟨Hc, HO⟩
  iapply Hk
  isplitr; · iexact HR
  isplitr; · iexact HL
  isplitl [HO]; · iexists W; iexact HO
  isplitl [HTs]; · iexact HTs
  isplitl [HPs]; · iexact HPs
  isplitl [Hc Hcr]; · isplitl [Hc] <;> iassumption
  isplitl [HA]; · iexact HA
  isplitl [HPa]; · iexact HPa
  isplitl [HB]; · iexact HB
  isplitl [HPb] <;> iassumption

theorem step_wait_send (c : Dev nD) (n w v : ℕ) (k : Fin 31) (hk : k.val < n) (hw : pos k = w)
    {q : DmaSem sig} (hq : q = sendS k) {off : Fin 4 → ℕ} {inb : ∀ a, off a + S1x4x12x1024.size a ≤ S32x4x12x1024.size a}
    {hsrc : (gM.slice (Rect.unit (s := S32x4x12x1024) off S1x4x12x1024.size inb) (fun _ => rfl) : Memref sig .tc .vmem S1x4x12x1024 .bf16).view.WordExact}
    {hdst : (gM.slice (Rect.unit (s := S32x4x12x1024) off S1x4x12x1024.size inb) (fun _ => rfl) : Memref sig .tc .vmem S1x4x12x1024 .bf16).view.WordExact}
    {α : Type} {Q : α → sProp 𝕄} {kk : PUnit → Prog (TpuEff nD τ sig (Elt F) Λ₀ .tc) α} :
    X m K c n w v
      ⊢ iprop((X m K c n (w + 1) v -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q (gM.slice (Rect.unit (s := S32x4x12x1024) off S1x4x12x1024.size inb) (fun _ => rfl) : Memref sig .tc .vmem S1x4x12x1024 .bf16)
                (gM.slice (Rect.unit (s := S32x4x12x1024) off S1x4x12x1024.size inb) (fun _ => rfl) : Memref sig .tc .vmem S1x4x12x1024 .bf16) hsrc hdst) kk) Q) := by
  subst hw hq
  unfold X
  rw [sent_wait k n hk, bigSep_ins (notMem_sent_wait k n), ahead_step k, bigSep_ins (notMem_ahead k), past_step k, bigSep_ins (notMem_past k)]
  iintro ⟨#HR, #HL, ⟨%W, HO⟩, HTs, HPs, ⟨Hc, Hcr⟩, ⟨Hat, HA⟩, HPa, HB, HPb, HKp⟩ Hk
  iapply (Rounds.wp_wait_rest_token 𝒱₀ EG (Rd m) (c : Thread nD τ) none (κ := K (c, .send k))
      (wpE_waitDma2_eq 𝒱₀ (c : Thread nD τ) none Set.univ) (Set.mem_univ _) () (O := Ow n c) (W := W) (R := 0) (m := 0) (T := ∅)
      (by rw [Nat.zero_add, expect_send]; rfl)) $$ [Hc HO Hat]
  · isplitr; · iapply (inv_at m K (c, .send k)); iexact HR
    isplitl [Hc]; · iexact Hc
    isplitl [HO]; · iexact HO
    isplitr; · iapply (mayWait_send c k n); iexact HL
    iexact Hat
  iintro ⟨HO, Hat, -, Hpay⟩
  ihave HP := (Entails.of_eq (rest_send m c k)) $$ Hpay
  imod (Rounds.cell_close EG (Rd m) (Set.mem_univ (K (c, .send k))) (fun h => h) (R := 0 + 1) (duties_later m (sendCell k c))) $$ [Hat] with Hz
  · isplitr; · iapply (inv_at m K (c, .send k)); iexact HR
    iexact Hat
  iapply Hk
  isplitr; · iexact HR
  isplitr; · iexact HL
  isplitl [HO]; · iexists _; iexact HO
  isplitl [HTs]; · iexact HTs
  isplitl [HPs]; · iexact HPs
  isplitl [Hcr]; · iexact Hcr
  isplitl [HA]; · iexact HA
  isplitl [HPa Hz HP]
  · isplitl [Hz HP]
    · isplitl [Hz] <;> iassumption
    iexact HPa
  isplitl [HB]; · iexact HB
  isplitl [HPb] <;> iassumption

/-- A receive wait, up to what becomes of the slot that arrives. -/
theorem step_wait_recv_core (c : Dev nD) (n w : ℕ) (k : Fin 31) (h : 31 ≤ n ∨ (10 ≤ n ∧ k.val < 10 ∧ 7 ≤ k.val))
    (hX : iprop(bigSep (atHand n (pos k)) (piece (F := F) m c) ∗ bigSep (kept (pos k)) (fun k => slotPts c (rslot k c) fullShare (GG m)) ∗ recvPay m k c)
      ⊢ iprop(bigSep (atHand n (pos k + 1)) (piece m c) ∗ bigSep (kept (pos k + 1)) (fun k => slotPts c (rslot k c) fullShare (GG m))))
    {off : Fin 4 → ℕ} {inb : ∀ a, off a + S1x4x12x1024.size a ≤ S32x4x12x1024.size a}
    {hsrc : (gM.slice (Rect.unit (s := S32x4x12x1024) off S1x4x12x1024.size inb) (fun _ => rfl) : Memref sig .tc .vmem S1x4x12x1024 .bf16).view.WordExact}
    {hdst : (gM.slice (Rect.unit (s := S32x4x12x1024) off S1x4x12x1024.size inb) (fun _ => rfl) : Memref sig .tc .vmem S1x4x12x1024 .bf16).view.WordExact}
    {α : Type} {Q : α → sProp 𝕄} {kk : PUnit → Prog (TpuEff nD τ sig (Elt F) Λ₀ .tc) α} :
    X m K c n w (pos k)
      ⊢ iprop((X m K c n w (pos k + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (recvS k) (gM.slice (Rect.unit (s := S32x4x12x1024) off S1x4x12x1024.size inb) (fun _ => rfl) : Memref sig .tc .vmem S1x4x12x1024 .bf16)
                (gM.slice (Rect.unit (s := S32x4x12x1024) off S1x4x12x1024.size inb) (fun _ => rfl) : Memref sig .tc .vmem S1x4x12x1024 .bf16) hsrc hdst) kk) Q) := by
  unfold X
  rw [ahead_step k, bigSep_ins (notMem_ahead k), past_step k, bigSep_ins (notMem_past k)]
  iintro ⟨#HR, #HL, ⟨%W, HO⟩, HTs, HPs, Hcr, HA, HPa, ⟨⟨Hat, Hc⟩, HB⟩, HPb, HKp⟩ Hk
  iapply (Rounds.wp_wait_rest_token 𝒱₀ EG (Rd m) (c : Thread nD τ) none (κ := K (c, .recv k))
      (wpE_waitDma2_eq 𝒱₀ (c : Thread nD τ) none Set.univ) (Set.mem_univ _) () (O := Ow n c) (W := W) (R := 0) (m := 0) (T := ∅)
      (by rw [Nat.zero_add, expect_recv]; rfl)) $$ [Hc HO Hat]
  · isplitr; · iapply (inv_at m K (c, .recv k)); iexact HR
    isplitl [Hc]; · iexact Hc
    isplitl [HO]; · iexact HO
    isplitr; · iapply (mayWait_recv c k n h); iexact HL
    iexact Hat
  iintro ⟨HO, Hat, -, Hpay⟩
  ihave HP := (Entails.of_eq (rest_recv m c k)) $$ Hpay
  imod (Rounds.cell_close EG (Rd m) (Set.mem_univ (K (c, .recv k))) (fun h => h) (R := 0 + 1) (duties_later m (recvCell k c))) $$ [Hat] with Hz
  · isplitr; · iapply (inv_at m K (c, .recv k)); iexact HR
    iexact Hat
  ihave HX := hX $$ [HPs HKp HP]
  · isplitl [HPs]; · iexact HPs
    isplitl [HKp] <;> iassumption
  icases HX with ⟨HPs, HKp⟩
  iapply Hk
  isplitr; · iexact HR
  isplitr; · iexact HL
  isplitl [HO]; · iexists _; iexact HO
  isplitl [HTs]; · iexact HTs
  isplitl [HPs]; · iexact HPs
  isplitl [Hcr]; · iexact Hcr
  isplitl [HA]; · iexact HA
  isplitl [HPa]; · iexact HPa
  isplitl [HB]; · iexact HB
  isplitl [HPb Hz]
  · isplitl [Hz] <;> iassumption
  iexact HKp

/-- The wait for an arrival across the planes, number `b`: the slot that arrives is dealt to the copies that forward it. -/
theorem step_wait_plane (c : Dev nD) (n w v : ℕ) (b : Fin 3) (hb : b.val = v) (h10 : 10 ≤ n) (hn : n ≤ 10 + 7 * v)
    {q : DmaSem sig} (hq : q = recvS ⟨7 + b.val, by omega⟩) {off : Fin 4 → ℕ} {inb : ∀ a, off a + S1x4x12x1024.size a ≤ S32x4x12x1024.size a}
    {hsrc : (gM.slice (Rect.unit (s := S32x4x12x1024) off S1x4x12x1024.size inb) (fun _ => rfl) : Memref sig .tc .vmem S1x4x12x1024 .bf16).view.WordExact}
    {hdst : (gM.slice (Rect.unit (s := S32x4x12x1024) off S1x4x12x1024.size inb) (fun _ => rfl) : Memref sig .tc .vmem S1x4x12x1024 .bf16).view.WordExact}
    {α : Type} {Q : α → sProp 𝕄} {kk : PUnit → Prog (TpuEff nD τ sig (Elt F) Λ₀ .tc) α} :
    X m K c n w v
      ⊢ iprop((X m K c n w (v + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q (gM.slice (Rect.unit (s := S32x4x12x1024) off S1x4x12x1024.size inb) (fun _ => rfl) : Memref sig .tc .vmem S1x4x12x1024 .bf16)
                (gM.slice (Rect.unit (s := S32x4x12x1024) off S1x4x12x1024.size inb) (fun _ => rfl) : Memref sig .tc .vmem S1x4x12x1024 .bf16) hsrc hdst) kk) Q) := by
  subst hb hq
  have hp : pos ⟨7 + b.val, by omega⟩ = b.val := pos_plane b
  have key := step_wait_recv_core (F := F) m K c n w ⟨7 + b.val, by omega⟩ (Or.inr ⟨h10, by show 7 + b.val < 10; omega, by show 7 ≤ 7 + b.val; omega⟩)
    (by
      rw [hp, kept_small _ (by omega), kept_small _ (by omega), bigSep_empty, atHand_recv b n hn, bigSep_uni (atHand_disj b n)]
      unfold recvPay
      rw [deal m c b.succ (rslot ⟨7 + b.val, by omega⟩ c) (sl_grpS c b)]
      iintro ⟨H1, -, H2⟩
      isplitl [H1 H2]
      · isplitl [H1] <;> iassumption
      · iempintro) (off := off) (inb := inb) (hsrc := hsrc) (hdst := hdst) (Q := Q) (kk := kk)
  rw [hp] at key
  exact key

/-- The wait for any other arrival, when all copies are started: the slot is kept. -/
theorem step_wait_recv (c : Dev nD) (w v : ℕ) (k : Fin 31) (hk : pos k = v) (h3 : 3 ≤ v)
    {q : DmaSem sig} (hq : q = recvS k) {off : Fin 4 → ℕ} {inb : ∀ a, off a + S1x4x12x1024.size a ≤ S32x4x12x1024.size a}
    {hsrc : (gM.slice (Rect.unit (s := S32x4x12x1024) off S1x4x12x1024.size inb) (fun _ => rfl) : Memref sig .tc .vmem S1x4x12x1024 .bf16).view.WordExact}
    {hdst : (gM.slice (Rect.unit (s := S32x4x12x1024) off S1x4x12x1024.size inb) (fun _ => rfl) : Memref sig .tc .vmem S1x4x12x1024 .bf16).view.WordExact}
    {α : Type} {Q : α → sProp 𝕄} {kk : PUnit → Prog (TpuEff nD τ sig (Elt F) Λ₀ .tc) α} :
    X m K c 31 w v
      ⊢ iprop((X m K c 31 w (v + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q (gM.slice (Rect.unit (s := S32x4x12x1024) off S1x4x12x1024.size inb) (fun _ => rfl) : Memref sig .tc .vmem S1x4x12x1024 .bf16)
                (gM.slice (Rect.unit (s := S32x4x12x1024) off S1x4x12x1024.size inb) (fun _ => rfl) : Memref sig .tc .vmem S1x4x12x1024 .bf16) hsrc hdst) kk) Q) := by
  subst hk hq
  exact step_wait_recv_core m K c 31 w k (Or.inl le_rfl) (by
    rw [atHand_end, atHand_end, kept_step k h3, bigSep_ins (notMem_kept k)]
    unfold recvPay
    iintro ⟨H1, H2, H3⟩
    isplitl [H1]; · iexact H1
    isplitl [H3] <;> iassumption)

end Cert.Moe

end
-- ==== Proof.Runs.lean ====
/-
# A run of a piece of the kernel

`Leads c P prog Q a`: on device `c`, holding `P`, the piece `prog` runs through, ends with the value `a` and leaves `Q`. Pieces are put
together with `Leads.bind`; a step is added in front with `Leads.step`.
-/
module

public import proofs.«01_k».proof.Proof.Steps

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def Leads (c : Dev nD) (P : sProp 𝕄) {α : Type} (p : Prog (TpuEff nD τ sig (Elt F) Λ₀ .tc) α) (P' : sProp 𝕄) (a : α) : Prop :=
  ∀ Q : α → sProp 𝕄, P ⊢ iprop((P' -∗ Q a) -∗ wp frame (wpE (defs₀ (F := F)) 𝒱₀ (c : Thread nD τ) none) Set.univ p Q)

variable {c : Dev nD} {α β : Type}

theorem Leads.ret {P : sProp 𝕄} (a : α) : Leads c P (.ret a) P a := by
  intro Q
  rw [wp_ret]
  iintro HP Hk
  imodintro
  iapply Hk; iexact HP

/-- A step in front, `X` what the program is continued with. -/
theorem Leads.step {P P' P'' : sProp 𝕄} {Z : Type} {e : TpuEff nD τ sig (Elt F) Λ₀ .tc Z} {k : Z → Prog (TpuEff nD τ sig (Elt F) Λ₀ .tc) α} {z : Z} {a : α}
    (h : ∀ Q : α → sProp 𝕄, P ⊢ iprop((P' -∗ wp frame (wpE (defs₀ (F := F)) 𝒱₀ (c : Thread nD τ) none) Set.univ (k z) Q)
      -∗ wp frame (wpE (defs₀ (F := F)) 𝒱₀ (c : Thread nD τ) none) Set.univ (.op e k) Q))
    (h' : Leads c P' (k z) P'' a) : Leads c P (.op e k) P'' a := by
  intro Q
  iintro HP Hk
  iapply (h Q) $$ HP
  iintro HP
  iapply (h' Q) $$ HP
  iexact Hk

theorem Leads.bind {P P' P'' : sProp 𝕄} {p : Prog (TpuEff nD τ sig (Elt F) Λ₀ .tc) α} {f : α → Prog (TpuEff nD τ sig (Elt F) Λ₀ .tc) β} {a : α} {b : β}
    (h : Leads c P p P' a) (h' : Leads c P' (f a) P'' b) : Leads c P (p >>= f) P'' b := by
  intro Q
  rw [wp_bind]
  iintro HP Hk
  iapply (h _) $$ HP
  iintro HP
  iapply (h' Q) $$ HP
  iexact Hk

theorem Leads.conseq {P P' : sProp 𝕄} {p : Prog (TpuEff nD τ sig (Elt F) Λ₀ .tc) α} {a : α} {P₁ P₁' : sProp 𝕄} (h : Leads c P p P' a)
    (h₁ : P₁ ⊢ P) (h₂ : P' ⊢ P₁') : Leads c P₁ p P₁' a := by
  intro Q
  iintro HP Hk
  ihave HP := h₁ $$ HP
  iapply (h Q) $$ HP
  iintro HP
  iapply Hk
  iapply h₂; iexact HP

theorem Leads.frame {P P' : sProp 𝕄} {p : Prog (TpuEff nD τ sig (Elt F) Λ₀ .tc) α} {a : α} (R : sProp 𝕄) (h : Leads c P p P' a) :
    Leads c iprop(P ∗ R) p iprop(P' ∗ R) a := by
  intro Q
  iintro ⟨HP, HR⟩ Hk
  iapply (h Q) $$ HP
  iintro HP
  iapply Hk
  isplitl [HP] <;> iassumption

end Cert.Moe

end
-- ==== Proof.Parts.lean ====
/-
# The pieces of the kernel that signal, copy and wait

One lemma for each piece: what the piece needs, what it leaves, the values that it returns.
-/
module

public import proofs.«01_k».proof.Proof.Runs

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × Cell → ℕ) (c : Dev nD)

theorem hoff5 (k : Fin 31) (h : k.val < 10) : k0_off5 c = ![(sl k c).val, 0, 0, 0] := by
  rw [k0_off5_eq, sl_own k c h]

theorem hoff6 (k : Fin 31) (b : Fin 3) (h : 10 + 7 * b.val ≤ k.val) (h' : k.val < 17 + 7 * b.val) :
    k0_off6 c (BitVec.ofNat 32 (1 + b.val)) = ![(sl k c).val, 0, 0, 0] := by
  rw [k0_off6_eq, sl_fwd k c b h h', sl_off6]

/-- The memory the copies leave alone: the staged inputs and the output's staging buffer. -/
def Stage : sProp (MT nD τ sig Unit (Elt F) ℕ UU ℕ) :=
  iprop((((c : Thread nD τ).loc cc0_stg0_0) ↦{fullShare} (xst m c)) ∗ (((c : Thread nD τ).loc cc0_stg1_0) ↦{fullShare} (rst m c))
    ∗ (((c : Thread nD τ).loc cc0_stg2_0) ↦{fullShare} (wst m c)) ∗ (∃ f, ((c : Thread nD τ).loc cc0_stg3_0) ↦{fullShare} f))

variable {P' : sProp (MT nD τ sig Unit (Elt F) ℕ UU ℕ)} {α : Type} {a : α} {kk : PUnit → Prog (TpuEff nD τ sig (Elt F) Λ₀ .tc) α}

/-! ## The steps, in front of what follows -/

theorem Leads.signal (n : ℕ) (i : Fin 31) {d : Dev nD} {k' : ℕ} (h : Leads c (Sig m K c (n + 1)) (kk ⟨⟩) P' a) (hn : i.val = n)
    (hd : d.val = (c.val + (i.val + 1)) % 32) (hk : k' = 1) :
    Leads c (Sig m K c n) (.op (.semSignal (d, (c : Thread nD τ).2) barS k') kk) P' a :=
  .step (fun Q => step_signal m K c n i hn d hd hk) h

section

variable {off : Fin 4 → ℕ} {inb : ∀ a, off a + S1x4x12x1024.size a ≤ S32x4x12x1024.size a} {sS sV : DmaSem sig}
    {hsrc : (gM.slice (Rect.unit (s := S32x4x12x1024) off S1x4x12x1024.size inb) (fun _ => rfl) : Memref sig .tc .vmem S1x4x12x1024 .bf16).view.WordExact}
    {hdst : (gM.slice (Rect.unit (s := S32x4x12x1024) off S1x4x12x1024.size inb) (fun _ => rfl) : Memref sig .tc .vmem S1x4x12x1024 .bf16).view.WordExact}

theorem Leads.send (n w v : ℕ) (k : Fin 31) {d : Dev nD}
    {hsc : (gM.slice (Rect.unit (s := S32x4x12x1024) off S1x4x12x1024.size inb) (fun _ => rfl) : Memref sig (Dev.tc d : Thread nD τ).2.kind .vmem S1x4x12x1024 .bf16).view.ref.isScScratch = false}
    {hsem : DmaTarget.Typed .vmem (.dma sV) (.remote (Dev.tc d : Thread nD τ) (gM.slice (Rect.unit (s := S32x4x12x1024) off S1x4x12x1024.size inb) (fun _ => rfl) : Memref sig .tc .vmem S1x4x12x1024 .bf16) (.dma sS) hsc)}
    (h : Leads c (X m K c (n + 1) w v) (kk ⟨⟩) P' a) (hn : k.val = n) (hoff : off = ![(sl k c).val, 0, 0, 0]) (hd : d.val = tgtN k.val c.val)
    (hS : sS = sendS k) (hV : sV = recvS k) (hw : w ≤ pos k) (hv : k.val < 10 + 7 * v) :
    Leads c (X m K c n w v)
      (.op (.enqueueDma (gM.slice (Rect.unit (s := S32x4x12x1024) off S1x4x12x1024.size inb) (fun _ => rfl) : Memref sig .tc .vmem S1x4x12x1024 .bf16)
        (.remote (Dev.tc d : Thread nD τ) (gM.slice (Rect.unit (s := S32x4x12x1024) off S1x4x12x1024.size inb) (fun _ => rfl) : Memref sig .tc .vmem S1x4x12x1024 .bf16) (.dma sS) hsc)
        (.dma sV) hsrc hdst hsem) kk) P' a :=
  .step (fun Q => step_send m K c n w v k hn off hoff d hd hS hV hw hv) h

theorem Leads.wait_send (n w v : ℕ) (k : Fin 31) (h : Leads c (X m K c n (w + 1) v) (kk ⟨⟩) P' a) (hk : k.val < n) (hw : pos k = w)
    (hS : sS = sendS k) :
    Leads c (X m K c n w v)
      (.op (.waitDma2 sS (gM.slice (Rect.unit (s := S32x4x12x1024) off S1x4x12x1024.size inb) (fun _ => rfl) : Memref sig .tc .vmem S1x4x12x1024 .bf16)
        (gM.slice (Rect.unit (s := S32x4x12x1024) off S1x4x12x1024.size inb) (fun _ => rfl) : Memref sig .tc .vmem S1x4x12x1024 .bf16) hsrc hdst) kk) P' a :=
  .step (fun Q => step_wait_send m K c n w v k hk hw hS) h

theorem Leads.wait_plane (n w v : ℕ) (b : Fin 3) (h : Leads c (X m K c n w (v + 1)) (kk ⟨⟩) P' a) (hb : b.val = v) (h10 : 10 ≤ n) (hn : n ≤ 10 + 7 * v)
    (hV : sV = recvS ⟨7 + b.val, by omega⟩) :
    Leads c (X m K c n w v)
      (.op (.waitDma2 sV (gM.slice (Rect.unit (s := S32x4x12x1024) off S1x4x12x1024.size inb) (fun _ => rfl) : Memref sig .tc .vmem S1x4x12x1024 .bf16)
        (gM.slice (Rect.unit (s := S32x4x12x1024) off S1x4x12x1024.size inb) (fun _ => rfl) : Memref sig .tc .vmem S1x4x12x1024 .bf16) hsrc hdst) kk) P' a :=
  .step (fun Q => step_wait_plane m K c n w v b hb h10 hn hV) h

theorem Leads.wait_recv (w v : ℕ) (k : Fin 31) (h : Leads c (X m K c 31 w (v + 1)) (kk ⟨⟩) P' a) (hk : pos k = v) (h3 : 3 ≤ v)
    (hV : sV = recvS k) :
    Leads c (X m K c 31 w v)
      (.op (.waitDma2 sV (gM.slice (Rect.unit (s := S32x4x12x1024) off S1x4x12x1024.size inb) (fun _ => rfl) : Memref sig .tc .vmem S1x4x12x1024 .bf16)
        (gM.slice (Rect.unit (s := S32x4x12x1024) off S1x4x12x1024.size inb) (fun _ => rfl) : Memref sig .tc .vmem S1x4x12x1024 .bf16) hsrc hdst) kk) P' a :=
  .step (fun Q => step_wait_recv m K c w v k hk h3 hV) h

end

theorem devId {k : Dev nD → Prog (TpuEff nD τ sig (Elt F) Λ₀ .tc) α} {P : sProp (MT nD τ sig Unit (Elt F) ℕ UU ℕ)} (h : Leads c P (k c) P' a) :
    Leads c P (.op .deviceId k) P' a := by
  intro Q
  rw [wp_deviceId]
  exact h Q

/-! ## The pieces -/

theorem part1 :
    Leads c (Sig m K c 0) (k0_part1 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6)
      (Sig m K c 4) ⟨c, v2 c, Scalar.divsi (v2 c) 8#32, Scalar.remsi (v2 c) 8#32, SemArray.scalar (sig.barrier 0 rfl)⟩ := by
  rw [k0_part1_eq_skeleton]; unfold k0_part1_skel
  simp only [semSignalWord, Prog.lift, Prog.bind_op, Prog.bind_ret, Prog.pure_eq_ret]
  refine devId c ?_
  refine .signal m K c 0 0 ?_ rfl (k0_dev1_eq c) rfl
  refine .signal m K c 1 1 ?_ rfl (k0_dev2_eq c) rfl
  refine .signal m K c 2 2 ?_ rfl (k0_dev3_eq c) rfl
  refine .signal m K c 3 3 ?_ rfl (k0_dev4_eq c) rfl
  exact Leads.ret (F := F) _

theorem part2 (v2 : BitVec 32) :
    Leads c (Sig m K c 4) (k0_part2 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 (SemArray.scalar (sig.barrier 0 rfl)))
      (Sig m K c 10) ⟨⟩ := by
  rw [k0_part2_eq_skeleton]; unfold k0_part2_skel
  simp only [semSignalWord, Prog.lift, Prog.bind_op, Prog.bind_ret, Prog.pure_eq_ret]
  refine .signal m K c 4 4 ?_ rfl (k0_dev5_eq c) rfl
  refine .signal m K c 5 5 ?_ rfl (k0_dev6_eq c) rfl
  refine .signal m K c 6 6 ?_ rfl (k0_dev7_eq c) rfl
  refine .signal m K c 7 7 ?_ rfl (k0_dev8_eq c) rfl
  refine .signal m K c 8 8 ?_ rfl (k0_dev9_eq c) rfl
  refine .signal m K c 9 9 ?_ rfl (k0_dev10_eq c) rfl
  exact Leads.ret (F := F) _

theorem part3 (v2 : BitVec 32) :
    Leads c (Sig m K c 10) (k0_part3 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 (SemArray.scalar (sig.barrier 0 rfl)))
      (Sig m K c 16) ⟨⟩ := by
  rw [k0_part3_eq_skeleton]; unfold k0_part3_skel
  simp only [semSignalWord, Prog.lift, Prog.bind_op, Prog.bind_ret, Prog.pure_eq_ret]
  refine .signal m K c 10 10 ?_ rfl (k0_dev11_eq c) rfl
  refine .signal m K c 11 11 ?_ rfl (k0_dev12_eq c) rfl
  refine .signal m K c 12 12 ?_ rfl (k0_dev13_eq c) rfl
  refine .signal m K c 13 13 ?_ rfl (k0_dev14_eq c) rfl
  refine .signal m K c 14 14 ?_ rfl (k0_dev15_eq c) rfl
  refine .signal m K c 15 15 ?_ rfl (k0_dev16_eq c) rfl
  exact Leads.ret (F := F) _

theorem part4 (v2 : BitVec 32) :
    Leads c (Sig m K c 16) (k0_part4 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 (SemArray.scalar (sig.barrier 0 rfl)))
      (Sig m K c 22) ⟨⟩ := by
  rw [k0_part4_eq_skeleton]; unfold k0_part4_skel
  simp only [semSignalWord, Prog.lift, Prog.bind_op, Prog.bind_ret, Prog.pure_eq_ret]
  refine .signal m K c 16 16 ?_ rfl (k0_dev17_eq c) rfl
  refine .signal m K c 17 17 ?_ rfl (k0_dev18_eq c) rfl
  refine .signal m K c 18 18 ?_ rfl (k0_dev19_eq c) rfl
  refine .signal m K c 19 19 ?_ rfl (k0_dev20_eq c) rfl
  refine .signal m K c 20 20 ?_ rfl (k0_dev21_eq c) rfl
  refine .signal m K c 21 21 ?_ rfl (k0_dev22_eq c) rfl
  exact Leads.ret (F := F) _

theorem part5 (v2 : BitVec 32) :
    Leads c (Sig m K c 22) (k0_part5 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 (SemArray.scalar (sig.barrier 0 rfl)))
      (Sig m K c 28) ⟨⟩ := by
  rw [k0_part5_eq_skeleton]; unfold k0_part5_skel
  simp only [semSignalWord, Prog.lift, Prog.bind_op, Prog.bind_ret, Prog.pure_eq_ret]
  refine .signal m K c 22 22 ?_ rfl (k0_dev23_eq c) rfl
  refine .signal m K c 23 23 ?_ rfl (k0_dev24_eq c) rfl
  refine .signal m K c 24 24 ?_ rfl (k0_dev25_eq c) rfl
  refine .signal m K c 25 25 ?_ rfl (k0_dev26_eq c) rfl
  refine .signal m K c 26 26 ?_ rfl (k0_dev27_eq c) rfl
  refine .signal m K c 27 27 ?_ rfl (k0_dev28_eq c) rfl
  exact Leads.ret (F := F) _

theorem part10 (v3 : BitVec 32) (v4 : BitVec 32) :
    ∃ v295 v307 : BitVec 32, Leads c (X m K c 0 0 0) (k0_part10 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4)
      (X m K c 2 0 0) ⟨v295, v307⟩ := by
  rw [k0_part10_eq_skeleton]; unfold k0_part10_skel
  simp only [semSignalWord, Prog.lift, Prog.bind_op, Prog.bind_ret, Prog.pure_eq_ret]
  refine ⟨?_, ?_, ?_⟩
  rotate_left 2
  refine .send m K c 0 0 0 0 ?_ rfl (hoff5 c 0 (by decide)) (k0_dev32_eq c) rfl rfl (by decide) (by decide)
  refine .send m K c 1 0 0 1 ?_ rfl (hoff5 c 1 (by decide)) (k0_dev33_eq c) rfl rfl (by decide) (by decide)
  exact Leads.ret (F := F) _

theorem part11 (v3 : BitVec 32) (v4 : BitVec 32) :
    ∃ v319 v331 v340 : BitVec 32, Leads c (X m K c 2 0 0) (k0_part11 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4)
      (X m K c 5 0 0) ⟨v319, v331, v340, 6#32⟩ := by
  rw [k0_part11_eq_skeleton]; unfold k0_part11_skel
  simp only [semSignalWord, Prog.lift, Prog.bind_op, Prog.bind_ret, Prog.pure_eq_ret]
  refine ⟨?_, ?_, ?_, ?_⟩
  rotate_left 3
  refine .send m K c 2 0 0 2 ?_ rfl (hoff5 c 2 (by decide)) (k0_dev34_eq c) rfl rfl (by decide) (by decide)
  refine .send m K c 3 0 0 3 ?_ rfl (hoff5 c 3 (by decide)) (k0_dev35_eq c) rfl rfl (by decide) (by decide)
  refine .send m K c 4 0 0 4 ?_ rfl (hoff5 c 4 (by decide)) (k0_dev36_eq c) rfl rfl (by decide) (by decide)
  exact Leads.ret (F := F) _

theorem part12 (v2 : BitVec 32) (v3 : BitVec 32) (v4 : BitVec 32) (v340 : BitVec 32) (c6_i32_237 : BitVec 32) :
    ∃ v343 v355 v365 : BitVec 32, Leads c (X m K c 5 0 0) (k0_part12 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 v3 v4 v340 c6_i32_237)
      (X m K c 7 0 0) ⟨v343, v355, v365⟩ := by
  rw [k0_part12_eq_skeleton]; unfold k0_part12_skel
  simp only [semSignalWord, Prog.lift, Prog.bind_op, Prog.bind_ret, Prog.pure_eq_ret]
  refine ⟨?_, ?_, ?_, ?_⟩
  rotate_left 3
  refine .send m K c 5 0 0 5 ?_ rfl (hoff5 c 5 (by decide)) (k0_dev37_eq c) rfl rfl (by decide) (by decide)
  refine .send m K c 6 0 0 6 ?_ rfl (hoff5 c 6 (by decide)) (k0_dev38_eq c) rfl rfl (by decide) (by decide)
  exact Leads.ret (F := F) _

theorem part13 (v2 : BitVec 32) (v131 : IVec S2048x1 32) :
    ∃ v375 v385 : BitVec 32, Leads c (X m K c 7 0 0) (k0_part13 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 v131)
      (X m K c 10 0 0) ⟨v375, v385, (iota .tc S1x128 32 [1] iota_S1x128_d1_w32), k0_pay14 v131⟩ := by
  rw [k0_part13_eq_skeleton]; unfold k0_part13_skel
  simp only [semSignalWord, Prog.lift, Prog.bind_op, Prog.bind_ret, Prog.pure_eq_ret]
  refine ⟨?_, ?_, ?_⟩
  rotate_left 2
  refine .send m K c 7 0 0 7 ?_ rfl (hoff5 c 7 (by decide)) (k0_dev39_eq c) rfl rfl (by decide) (by decide)
  refine .send m K c 8 0 0 8 ?_ rfl (hoff5 c 8 (by decide)) (k0_dev40_eq c) rfl rfl (by decide) (by decide)
  refine .send m K c 9 0 0 9 ?_ rfl (hoff5 c 9 (by decide)) (k0_dev41_eq c) rfl rfl (by decide) (by decide)
  exact Leads.ret (F := F) _

theorem part14 (v394 : IVec S1x128 32) (v395 : IVec S2048x128 32) :
    Leads c (X m K c 10 0 0) (k0_part14 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 v394 v395)
      (X m K c 10 0 0) ⟨k0_pay15 (F := F) v394 v395, k0_pay16 (F := F) v394 v395⟩ := by
  rw [k0_part14_eq_skeleton]; unfold k0_part14_skel
  simp only [semSignalWord, Prog.lift, Prog.bind_op, Prog.bind_ret, Prog.pure_eq_ret]
  exact Leads.ret (F := F) _

theorem part15 (v3 : BitVec 32) (v4 : BitVec 32) (v365 : BitVec 32) (v400 : FVec F S2048x128 .bf16) (v444 : FVec F S2048x128 .bf16) :
    ∃ v464 : BitVec 32, Leads c (X m K c 10 0 0) (k0_part15 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v365 v400 v444)
      (X m K c 10 1 1) ⟨k0_pay17 v400 v444, v464⟩ := by
  rw [k0_part15_eq_skeleton]; unfold k0_part15_skel
  simp only [semSignalWord, Prog.lift, Prog.bind_op, Prog.bind_ret, Prog.pure_eq_ret]
  refine ⟨?_, ?_⟩
  rotate_left 1
  refine .wait_send m K c 10 0 0 7 ?_ (by decide) rfl rfl
  refine .wait_plane m K c 10 1 0 0 ?_ rfl (by decide) (by decide) rfl
  exact Leads.ret (F := F) _

theorem part16 (v3 : BitVec 32) (v4 : BitVec 32) :
    ∃ v476 v488 : BitVec 32, Leads c (X m K c 10 1 1) (k0_part16 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4)
      (X m K c 13 1 1) ⟨v476, v488, 8#32⟩ := by
  rw [k0_part16_eq_skeleton]; unfold k0_part16_skel
  simp only [semSignalWord, Prog.lift, Prog.bind_op, Prog.bind_ret, Prog.pure_eq_ret]
  refine ⟨?_, ?_, ?_⟩
  rotate_left 2
  refine .send m K c 10 1 1 10 ?_ rfl (hoff6 c 10 0 (by decide) (by decide)) (k0_dev42_eq c) rfl rfl (by decide) (by decide)
  refine .send m K c 11 1 1 11 ?_ rfl (hoff6 c 11 0 (by decide) (by decide)) (k0_dev43_eq c) rfl rfl (by decide) (by decide)
  refine .send m K c 12 1 1 12 ?_ rfl (hoff6 c 12 0 (by decide) (by decide)) (k0_dev44_eq c) rfl rfl (by decide) (by decide)
  exact Leads.ret (F := F) _

theorem part17 (v3 : BitVec 32) (v4 : BitVec 32) (c8_i32_371 : BitVec 32) :
    ∃ v500 v512 v524 : BitVec 32, Leads c (X m K c 13 1 1) (k0_part17 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 c8_i32_371)
      (X m K c 15 1 1) ⟨v500, v512, v524⟩ := by
  rw [k0_part17_eq_skeleton]; unfold k0_part17_skel
  simp only [semSignalWord, Prog.lift, Prog.bind_op, Prog.bind_ret, Prog.pure_eq_ret]
  refine ⟨?_, ?_, ?_, ?_⟩
  rotate_left 3
  refine .send m K c 13 1 1 13 ?_ rfl (hoff6 c 13 0 (by decide) (by decide)) (k0_dev45_eq c) rfl rfl (by decide) (by decide)
  refine .send m K c 14 1 1 14 ?_ rfl (hoff6 c 14 0 (by decide) (by decide)) (k0_dev46_eq c) rfl rfl (by decide) (by decide)
  exact Leads.ret (F := F) _

theorem part18 (v3 : BitVec 32) (v4 : BitVec 32) (v524 : BitVec 32) :
    ∃ v536 : BitVec 32, Leads c (X m K c 15 1 1) (k0_part18 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v524)
      (X m K c 17 2 1) ⟨v536, 1#32⟩ := by
  rw [k0_part18_eq_skeleton]; unfold k0_part18_skel
  simp only [semSignalWord, Prog.lift, Prog.bind_op, Prog.bind_ret, Prog.pure_eq_ret]
  refine ⟨?_, ?_⟩
  rotate_left 1
  refine .send m K c 15 1 1 15 ?_ rfl (hoff6 c 15 0 (by decide) (by decide)) (k0_dev47_eq c) rfl rfl (by decide) (by decide)
  refine .send m K c 16 1 1 16 ?_ rfl (hoff6 c 16 0 (by decide) (by decide)) (k0_dev48_eq c) rfl rfl (by decide) (by decide)
  refine .wait_send m K c 17 1 1 8 ?_ (by decide) rfl rfl
  exact Leads.ret (F := F) _

theorem part19 (v3 : BitVec 32) (v4 : BitVec 32) (v375 : BitVec 32) (c1_i32_434 : BitVec 32) :
    ∃ v563 v575 v576 : BitVec 32, Leads c (X m K c 17 2 1) (k0_part19 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v375 c1_i32_434)
      (X m K c 18 2 2) ⟨v563, v575, v576⟩ := by
  rw [k0_part19_eq_skeleton]; unfold k0_part19_skel
  simp only [semSignalWord, Prog.lift, Prog.bind_op, Prog.bind_ret, Prog.pure_eq_ret]
  refine ⟨?_, ?_, ?_, ?_⟩
  rotate_left 3
  refine .wait_plane m K c 17 2 1 1 ?_ rfl (by decide) (by decide) rfl
  refine .send m K c 17 2 2 17 ?_ rfl (hoff6 c 17 1 (by decide) (by decide)) (k0_dev49_eq c) rfl rfl (by decide) (by decide)
  exact Leads.ret (F := F) _

theorem part20 (v3 : BitVec 32) (v4 : BitVec 32) (v576 : BitVec 32) :
    ∃ v587 v599 : BitVec 32, Leads c (X m K c 18 2 2) (k0_part20 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v576)
      (X m K c 20 2 2) ⟨v587, v599⟩ := by
  rw [k0_part20_eq_skeleton]; unfold k0_part20_skel
  simp only [semSignalWord, Prog.lift, Prog.bind_op, Prog.bind_ret, Prog.pure_eq_ret]
  refine ⟨?_, ?_, ?_⟩
  rotate_left 2
  refine .send m K c 18 2 2 18 ?_ rfl (hoff6 c 18 1 (by decide) (by decide)) (k0_dev50_eq c) rfl rfl (by decide) (by decide)
  refine .send m K c 19 2 2 19 ?_ rfl (hoff6 c 19 1 (by decide) (by decide)) (k0_dev51_eq c) rfl rfl (by decide) (by decide)
  exact Leads.ret (F := F) _

theorem part21 (v3 : BitVec 32) (v4 : BitVec 32) :
    ∃ v611 v623 : BitVec 32, Leads c (X m K c 20 2 2) (k0_part21 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4)
      (X m K c 23 2 2) ⟨v611, v623, 8#32⟩ := by
  rw [k0_part21_eq_skeleton]; unfold k0_part21_skel
  simp only [semSignalWord, Prog.lift, Prog.bind_op, Prog.bind_ret, Prog.pure_eq_ret]
  refine ⟨?_, ?_, ?_⟩
  rotate_left 2
  refine .send m K c 20 2 2 20 ?_ rfl (hoff6 c 20 1 (by decide) (by decide)) (k0_dev52_eq c) rfl rfl (by decide) (by decide)
  refine .send m K c 21 2 2 21 ?_ rfl (hoff6 c 21 1 (by decide) (by decide)) (k0_dev53_eq c) rfl rfl (by decide) (by decide)
  refine .send m K c 22 2 2 22 ?_ rfl (hoff6 c 22 1 (by decide) (by decide)) (k0_dev54_eq c) rfl rfl (by decide) (by decide)
  exact Leads.ret (F := F) _

theorem part22 (v3 : BitVec 32) (v4 : BitVec 32) (v385 : BitVec 32) (c8_i32_524 : BitVec 32) :
    ∃ v635 v655 : BitVec 32, Leads c (X m K c 23 2 2) (k0_part22 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v385 c8_i32_524)
      (X m K c 24 3 3) ⟨v635, v655⟩ := by
  rw [k0_part22_eq_skeleton]; unfold k0_part22_skel
  simp only [semSignalWord, Prog.lift, Prog.bind_op, Prog.bind_ret, Prog.pure_eq_ret]
  refine ⟨?_, ?_, ?_⟩
  rotate_left 2
  refine .send m K c 23 2 2 23 ?_ rfl (hoff6 c 23 1 (by decide) (by decide)) (k0_dev55_eq c) rfl rfl (by decide) (by decide)
  refine .wait_send m K c 24 2 2 9 ?_ (by decide) rfl rfl
  refine .wait_plane m K c 24 3 2 2 ?_ rfl (by decide) (by decide) rfl
  exact Leads.ret (F := F) _

theorem part23 (v3 : BitVec 32) (v4 : BitVec 32) (v655 : BitVec 32) :
    ∃ v662 v674 v683 : BitVec 32, Leads c (X m K c 24 3 3) (k0_part23 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v655)
      (X m K c 26 3 3) ⟨v662, v674, v683, 3#32⟩ := by
  rw [k0_part23_eq_skeleton]; unfold k0_part23_skel
  simp only [semSignalWord, Prog.lift, Prog.bind_op, Prog.bind_ret, Prog.pure_eq_ret]
  refine ⟨?_, ?_, ?_, ?_⟩
  rotate_left 3
  refine .send m K c 24 3 3 24 ?_ rfl (hoff6 c 24 2 (by decide) (by decide)) (k0_dev56_eq c) rfl rfl (by decide) (by decide)
  refine .send m K c 25 3 3 25 ?_ rfl (hoff6 c 25 2 (by decide) (by decide)) (k0_dev57_eq c) rfl rfl (by decide) (by decide)
  exact Leads.ret (F := F) _

theorem part24 (v3 : BitVec 32) (v4 : BitVec 32) (v683 : BitVec 32) (c3_i32_587 : BitVec 32) :
    ∃ v686 v698 v710 v711 : BitVec 32, Leads c (X m K c 26 3 3) (k0_part24 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v683 c3_i32_587)
      (X m K c 28 3 3) ⟨v686, v698, v710, v711⟩ := by
  rw [k0_part24_eq_skeleton]; unfold k0_part24_skel
  simp only [semSignalWord, Prog.lift, Prog.bind_op, Prog.bind_ret, Prog.pure_eq_ret]
  refine ⟨?_, ?_, ?_, ?_, ?_⟩
  rotate_left 4
  refine .send m K c 26 3 3 26 ?_ rfl (hoff6 c 26 2 (by decide) (by decide)) (k0_dev58_eq c) rfl rfl (by decide) (by decide)
  refine .send m K c 27 3 3 27 ?_ rfl (hoff6 c 27 2 (by decide) (by decide)) (k0_dev59_eq c) rfl rfl (by decide) (by decide)
  exact Leads.ret (F := F) _

theorem part25 (v3 : BitVec 32) (v4 : BitVec 32) (v711 : BitVec 32) :
    ∃ v722 v734 : BitVec 32, Leads c (X m K c 28 3 3) (k0_part25 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v3 v4 v711)
      (X m K c 30 3 3) ⟨v722, v734⟩ := by
  rw [k0_part25_eq_skeleton]; unfold k0_part25_skel
  simp only [semSignalWord, Prog.lift, Prog.bind_op, Prog.bind_ret, Prog.pure_eq_ret]
  refine ⟨?_, ?_, ?_⟩
  rotate_left 2
  refine .send m K c 28 3 3 28 ?_ rfl (hoff6 c 28 2 (by decide) (by decide)) (k0_dev60_eq c) rfl rfl (by decide) (by decide)
  refine .send m K c 29 3 3 29 ?_ rfl (hoff6 c 29 2 (by decide) (by decide)) (k0_dev61_eq c) rfl rfl (by decide) (by decide)
  exact Leads.ret (F := F) _

theorem part26 (v445 : FVec F S2048x128 .bf16) :
    Leads c (X m K c 30 3 3) (k0_part26 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v445)
      (X m K c 31 3 3) ⟨k0_pay18 v445, k0_pay19 v445, k0_pay20 v445, k0_pay21 v445, k0_pay22 v445, k0_pay23 v445, k0_pay24 v445, k0_pay25 v445, k0_pay26 v445⟩ := by
  rw [k0_part26_eq_skeleton]; unfold k0_part26_skel
  simp only [semSignalWord, Prog.lift, Prog.bind_op, Prog.bind_ret, Prog.pure_eq_ret]
  refine .send m K c 30 3 3 30 ?_ rfl (hoff6 c 30 2 (by decide) (by decide)) (k0_dev62_eq c) rfl rfl (by decide) (by decide)
  exact Leads.ret (F := F) _

theorem part27 (v283 : BitVec 32) (v445 : FVec F S2048x128 .bf16) (v747 : FVec F S2048x128 .bf16) (v752 : FVec F S2048x128 .bf16) (v757 : FVec F S2048x128 .bf16) (v762 : FVec F S2048x128 .bf16) (v767 : FVec F S2048x128 .bf16) (v772 : FVec F S2048x128 .bf16) (v777 : FVec F S2048x128 .bf16) (v782 : FVec F S2048x128 .bf16) (v786 : FVec F S2048x128 .f32) :
    Leads c (X m K c 31 3 3) (k0_part27 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v283 v445 v747 v752 v757 v762 v767 v772 v777 v782 v786)
      (X m K c 31 4 4) (k0_pay27 v445 v747 v752 v757 v762 v767 v772 v777 v782 v786) := by
  rw [k0_part27_eq_skeleton]; unfold k0_part27_skel
  simp only [semSignalWord, Prog.lift, Prog.bind_op, Prog.bind_ret, Prog.pure_eq_ret]
  refine .wait_send m K c 31 3 3 0 ?_ (by decide) rfl rfl
  refine .wait_recv m K c 4 3 0 ?_ rfl (by decide) rfl
  exact Leads.ret (F := F) _

theorem part28 (v295 : BitVec 32) (v307 : BitVec 32) :
    Leads c (X m K c 31 4 4) (k0_part28 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v295 v307)
      (X m K c 31 6 6) ⟨⟩ := by
  rw [k0_part28_eq_skeleton]; unfold k0_part28_skel
  simp only [semSignalWord, Prog.lift, Prog.bind_op, Prog.bind_ret, Prog.pure_eq_ret]
  refine .wait_send m K c 31 4 4 1 ?_ (by decide) rfl rfl
  refine .wait_recv m K c 5 4 1 ?_ rfl (by decide) rfl
  refine .wait_send m K c 31 5 5 2 ?_ (by decide) rfl rfl
  refine .wait_recv m K c 6 5 2 ?_ rfl (by decide) rfl
  exact Leads.ret (F := F) _

theorem part29 (v319 : BitVec 32) (v331 : BitVec 32) :
    Leads c (X m K c 31 6 6) (k0_part29 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v319 v331)
      (X m K c 31 8 8) ⟨⟩ := by
  rw [k0_part29_eq_skeleton]; unfold k0_part29_skel
  simp only [semSignalWord, Prog.lift, Prog.bind_op, Prog.bind_ret, Prog.pure_eq_ret]
  refine .wait_send m K c 31 6 6 3 ?_ (by decide) rfl rfl
  refine .wait_recv m K c 7 6 3 ?_ rfl (by decide) rfl
  refine .wait_send m K c 31 7 7 4 ?_ (by decide) rfl rfl
  refine .wait_recv m K c 8 7 4 ?_ rfl (by decide) rfl
  exact Leads.ret (F := F) _

theorem part30 (v343 : BitVec 32) (v355 : BitVec 32) :
    Leads c (X m K c 31 8 8) (k0_part30 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v343 v355)
      (X m K c 31 10 10) ⟨⟩ := by
  rw [k0_part30_eq_skeleton]; unfold k0_part30_skel
  simp only [semSignalWord, Prog.lift, Prog.bind_op, Prog.bind_ret, Prog.pure_eq_ret]
  refine .wait_send m K c 31 8 8 5 ?_ (by decide) rfl rfl
  refine .wait_recv m K c 9 8 5 ?_ rfl (by decide) rfl
  refine .wait_send m K c 31 9 9 6 ?_ (by decide) rfl rfl
  refine .wait_recv m K c 10 9 6 ?_ rfl (by decide) rfl
  exact Leads.ret (F := F) _

theorem part31 (v464 : BitVec 32) (v476 : BitVec 32) :
    Leads c (X m K c 31 10 10) (k0_part31 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v464 v476)
      (X m K c 31 12 12) ⟨⟩ := by
  rw [k0_part31_eq_skeleton]; unfold k0_part31_skel
  simp only [semSignalWord, Prog.lift, Prog.bind_op, Prog.bind_ret, Prog.pure_eq_ret]
  refine .wait_send m K c 31 10 10 10 ?_ (by decide) rfl rfl
  refine .wait_recv m K c 11 10 10 ?_ rfl (by decide) rfl
  refine .wait_send m K c 31 11 11 11 ?_ (by decide) rfl rfl
  refine .wait_recv m K c 12 11 11 ?_ rfl (by decide) rfl
  exact Leads.ret (F := F) _

theorem part32 (v488 : BitVec 32) (v500 : BitVec 32) :
    Leads c (X m K c 31 12 12) (k0_part32 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v488 v500)
      (X m K c 31 14 13) ⟨⟩ := by
  rw [k0_part32_eq_skeleton]; unfold k0_part32_skel
  simp only [semSignalWord, Prog.lift, Prog.bind_op, Prog.bind_ret, Prog.pure_eq_ret]
  refine .wait_send m K c 31 12 12 12 ?_ (by decide) rfl rfl
  refine .wait_recv m K c 13 12 12 ?_ rfl (by decide) rfl
  refine .wait_send m K c 31 13 13 13 ?_ (by decide) rfl rfl
  exact Leads.ret (F := F) _

theorem part33 (v512 : BitVec 32) (v524 : BitVec 32) :
    Leads c (X m K c 31 14 13) (k0_part33 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v512 v524)
      (X m K c 31 16 15) ⟨⟩ := by
  rw [k0_part33_eq_skeleton]; unfold k0_part33_skel
  simp only [semSignalWord, Prog.lift, Prog.bind_op, Prog.bind_ret, Prog.pure_eq_ret]
  refine .wait_recv m K c 14 13 13 ?_ rfl (by decide) rfl
  refine .wait_send m K c 31 14 14 14 ?_ (by decide) rfl rfl
  refine .wait_recv m K c 15 14 14 ?_ rfl (by decide) rfl
  refine .wait_send m K c 31 15 15 15 ?_ (by decide) rfl rfl
  exact Leads.ret (F := F) _

theorem part34 (v536 : BitVec 32) (v563 : BitVec 32) :
    Leads c (X m K c 31 16 15) (k0_part34 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v536 v563)
      (X m K c 31 18 17) ⟨⟩ := by
  rw [k0_part34_eq_skeleton]; unfold k0_part34_skel
  simp only [semSignalWord, Prog.lift, Prog.bind_op, Prog.bind_ret, Prog.pure_eq_ret]
  refine .wait_recv m K c 16 15 15 ?_ rfl (by decide) rfl
  refine .wait_send m K c 31 16 16 16 ?_ (by decide) rfl rfl
  refine .wait_recv m K c 17 16 16 ?_ rfl (by decide) rfl
  refine .wait_send m K c 31 17 17 17 ?_ (by decide) rfl rfl
  exact Leads.ret (F := F) _

theorem part35 (v575 : BitVec 32) (v587 : BitVec 32) :
    Leads c (X m K c 31 18 17) (k0_part35 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v575 v587)
      (X m K c 31 20 19) ⟨⟩ := by
  rw [k0_part35_eq_skeleton]; unfold k0_part35_skel
  simp only [semSignalWord, Prog.lift, Prog.bind_op, Prog.bind_ret, Prog.pure_eq_ret]
  refine .wait_recv m K c 18 17 17 ?_ rfl (by decide) rfl
  refine .wait_send m K c 31 18 18 18 ?_ (by decide) rfl rfl
  refine .wait_recv m K c 19 18 18 ?_ rfl (by decide) rfl
  refine .wait_send m K c 31 19 19 19 ?_ (by decide) rfl rfl
  exact Leads.ret (F := F) _

theorem part36 (v599 : BitVec 32) (v611 : BitVec 32) :
    Leads c (X m K c 31 20 19) (k0_part36 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v599 v611)
      (X m K c 31 22 21) ⟨⟩ := by
  rw [k0_part36_eq_skeleton]; unfold k0_part36_skel
  simp only [semSignalWord, Prog.lift, Prog.bind_op, Prog.bind_ret, Prog.pure_eq_ret]
  refine .wait_recv m K c 20 19 19 ?_ rfl (by decide) rfl
  refine .wait_send m K c 31 20 20 20 ?_ (by decide) rfl rfl
  refine .wait_recv m K c 21 20 20 ?_ rfl (by decide) rfl
  refine .wait_send m K c 31 21 21 21 ?_ (by decide) rfl rfl
  exact Leads.ret (F := F) _

theorem part37 (v623 : BitVec 32) (v635 : BitVec 32) :
    Leads c (X m K c 31 22 21) (k0_part37 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v623 v635)
      (X m K c 31 24 23) ⟨⟩ := by
  rw [k0_part37_eq_skeleton]; unfold k0_part37_skel
  simp only [semSignalWord, Prog.lift, Prog.bind_op, Prog.bind_ret, Prog.pure_eq_ret]
  refine .wait_recv m K c 22 21 21 ?_ rfl (by decide) rfl
  refine .wait_send m K c 31 22 22 22 ?_ (by decide) rfl rfl
  refine .wait_recv m K c 23 22 22 ?_ rfl (by decide) rfl
  refine .wait_send m K c 31 23 23 23 ?_ (by decide) rfl rfl
  exact Leads.ret (F := F) _

theorem part38 (v662 : BitVec 32) (v674 : BitVec 32) :
    ∃ v1028 : BitVec 32, Leads c (X m K c 31 24 23) (k0_part38 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v662 v674)
      (X m K c 31 26 25) v1028 := by
  rw [k0_part38_eq_skeleton]; unfold k0_part38_skel
  simp only [semSignalWord, Prog.lift, Prog.bind_op, Prog.bind_ret, Prog.pure_eq_ret]
  refine ⟨?_, ?_⟩
  rotate_left 1
  refine .wait_recv m K c 24 23 23 ?_ rfl (by decide) rfl
  refine .wait_send m K c 31 24 24 24 ?_ (by decide) rfl rfl
  refine .wait_recv m K c 25 24 24 ?_ rfl (by decide) rfl
  refine .wait_send m K c 31 25 25 25 ?_ (by decide) rfl rfl
  exact Leads.ret (F := F) _

theorem part39 (v686 : BitVec 32) (v1028 : BitVec 32) :
    Leads c (X m K c 31 26 25) (k0_part39 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v686 v1028)
      (X m K c 31 28 27) ⟨⟩ := by
  rw [k0_part39_eq_skeleton]; unfold k0_part39_skel
  simp only [semSignalWord, Prog.lift, Prog.bind_op, Prog.bind_ret, Prog.pure_eq_ret]
  refine .wait_recv m K c 26 25 25 ?_ rfl (by decide) rfl
  refine .wait_send m K c 31 26 26 26 ?_ (by decide) rfl rfl
  refine .wait_recv m K c 27 26 26 ?_ rfl (by decide) rfl
  refine .wait_send m K c 31 27 27 27 ?_ (by decide) rfl rfl
  exact Leads.ret (F := F) _

theorem part40 (v698 : BitVec 32) (v710 : BitVec 32) :
    Leads c (X m K c 31 28 27) (k0_part40 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v698 v710)
      (X m K c 31 30 29) ⟨⟩ := by
  rw [k0_part40_eq_skeleton]; unfold k0_part40_skel
  simp only [semSignalWord, Prog.lift, Prog.bind_op, Prog.bind_ret, Prog.pure_eq_ret]
  refine .wait_recv m K c 28 27 27 ?_ rfl (by decide) rfl
  refine .wait_send m K c 31 28 28 28 ?_ (by decide) rfl rfl
  refine .wait_recv m K c 29 28 28 ?_ rfl (by decide) rfl
  refine .wait_send m K c 31 29 29 29 ?_ (by decide) rfl rfl
  exact Leads.ret (F := F) _

end Cert.Moe

end
-- ==== Proof.Mid.lean ====
/-
# The pieces that load and store, and the whole body

The barrier's wait, the loads of the inputs, the four stores into the device's own slot, the loads of the full gather buffer; then the
pieces are put together to a run of the body.
-/
module

public import proofs.«01_k».proof.Proof.Parts

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The slots of a gather buffer -/

abbrev own (c : Dev nD) : Fin 32 := ⟨c.val, c.isLt⟩

theorem slots_eq (f : Buf (Elt F) ((c : Thread nD τ).loc cc0_scratch0)) :
    (((c : Thread nD τ).loc cc0_scratch0) ↦{fullShare} f : sProp 𝕄)
      = iprop(slotPts c (own c) fullShare f ∗ bigSep Finset.univ fun k => slotPts c (rslot k c) fullShare f) := by
  have h := pointsTo_biUnion (ℓ := (c : Thread nD τ).loc cc0_scratch0) (q := fullShare) (f := f) (Ix := Unit) (Val := Elt F) (Lvl := ℕ) (U := UU) (Name := ℕ) (nD := nD)
    (Finset.univ : Finset (Fin 32)) slotSet (fun s _ s' _ hne => slotSet_disjoint hne)
  rw [slotSet_univ] at h
  refine h.trans ?_
  rw [bigSep_erase (Finset.mem_univ (own c)), ← rslot_image c, bigSep_image_of_injOn fun k _ k' _ e => rslot_inj c k k' e]
  rfl

theorem pos_small : (Finset.univ.filter fun k : Fin 31 => pos k < 3) = insert 7 (insert 8 {9}) := by decide +kernel
theorem kept_all : kept 31 = Finset.univ.filter fun k : Fin 31 => ¬ pos k < 3 := by decide +kernel
theorem past_all : past 31 = Finset.univ := by decide +kernel
theorem past_none : past 0 = ∅ := by decide +kernel
theorem ahead_all : ahead 0 = Finset.univ := by decide +kernel
theorem sent_none (w : ℕ) : sent 0 w = ∅ := by
  ext j; simp only [sent, Finset.mem_filter, Finset.mem_univ, true_and, Finset.notMem_empty, iff_false]; omega
theorem atHand_zero : atHand 0 0 = grp 0 := by decide +kernel
theorem gid_image : (Finset.univ.image gid) = insert 0 (insert 1 (insert 2 {3})) := by decide +kernel

/-- All pieces together are the four slots that the device sends, its own and the three forwarded ones. -/
theorem pieces_eq : (bigSep Finset.univ (piece m c) : sProp 𝕄)
    = iprop(slotPts c (own c) fullShare (GG m) ∗ bigSep (Finset.univ.filter fun k : Fin 31 => pos k < 3) fun k => slotPts c (rslot k c) fullShare (GG m)) := by
  rw [bigSep_fiberwise Finset.univ gid, gid_image, pos_small, bigSep_ins (by decide), bigSep_ins (by decide), bigSep_ins (by decide), bigSep_singleton,
    bigSep_ins (by decide), bigSep_ins (by decide), bigSep_singleton]
  rw [deal m c 0 (own c) (sl_grp0 c), deal m c 1 (rslot 7 c) (sl_grpS c 0), deal m c 2 (rslot 8 c) (sl_grpS c 1), deal m c 3 (rslot 9 c) (sl_grpS c 2)]
  rfl

/-! ## Loads and stores in front of what follows -/

section

theorem Leads.load {P P' : sProp 𝕄} {α : Type} {a : α} {cs : CoreSpace} {s : Shape} {e : EltTy} {M : Memref sig .tc cs s e} {r : LoadRect s} {hl : M.view.LoadsAt r}
    {k : (r.shape.Idx → Elt F e) → Prog (TpuEff nD τ sig (Elt F) Λ₀ .tc) α}
    (f : Buf (Elt F) (M.view.loc (c : Thread nD τ))) (z : r.shape.Idx → Elt F e)
    (hP : P ⊢ iprop((M.view.loc (c : Thread nD τ) ↦{fullShare} f) ∗ ((M.view.loc (c : Thread nD τ) ↦{fullShare} f) -∗ P)))
    (hz : M.view.readAt (Elt F) r f = z) (h : Leads c P (k z) P' a) : Leads c P (.op (.load M r hl) k) P' a := by
  subst hz
  refine Leads.step (fun Q => ?_) h
  iintro HP Hk
  ihave HP := hP $$ HP
  icases HP with ⟨Hf, HP⟩
  iapply (wp_load 𝒱₀ (c : Thread nD τ) none Set.univ (S := Finset.univ) (Finset.subset_univ _)) $$ Hf
  iintro Hf
  iapply Hk
  iapply HP; iexact Hf

end

theorem slot_sub (s : Fin 32) (l : Fin 4) {off : Fin 4 → ℕ} (inb : ∀ a, off a + S1x1x12x1024.size a ≤ S32x4x12x1024.size a) (hoff : off = ![s.val, l.val, 0, 0]) :
    (Rect.unit (s := S32x4x12x1024) off S1x1x12x1024.size inb).set ⊆ slotSet s := by
  subst hoff
  intro i hi
  rw [mem_slotSet]
  rw [Rect.mem_set_unit] at hi
  have h0 := hi 0
  change s.val ≤ (i 0).val ∧ (i 0).val < s.val + 1 at h0
  omega

/-- What a store of a block of rows leaves. -/
def stRow (c : Dev nD) (l : ℕ) (pay : FVec F S1x1x12x1024 .bf16) (f : Vec F S32x4x12x1024 .bf16) : Vec F S32x4x12x1024 .bf16 :=
  fun i => if (i 0).val = c.val ∧ (i 1).val = l then pay (rowIdx i) else f i

theorem write_row (l : Fin 4) {off : Fin 4 → ℕ} (inb : ∀ a, off a + S1x1x12x1024.size a ≤ S32x4x12x1024.size a) (hoff : off = ![c.val, l.val, 0, 0])
    (pay : FVec F S1x1x12x1024 .bf16) (f : Vec F S32x4x12x1024 .bf16) :
    ((gM.access (Rect.unit (s := S32x4x12x1024) off S1x1x12x1024.size inb)) : View sig .tc _ _ _).write (Elt F) f pay Finset.univ = stRow c l.val pay f := by
  subst hoff
  funext i
  unfold stRow
  by_cases h : (i 0).val = c.val ∧ (i 1).val = l.val
  · rw [if_pos h]
    have e : (gM.access (Rect.unit (s := S32x4x12x1024) ![c.val, l.val, 0, 0] S1x1x12x1024.size inb) : View sig .tc _ _ _).emb (rowIdx i) = i := by
      funext a
      refine Fin.ext ?_
      fin_cases a
      · show c.val + 0 * 1 = (i 0).val; omega
      · show l.val + 0 * 1 = (i 1).val; omega
      · show 0 + 1 * (i 2).val = (i 2).val; omega
      · show 0 + 1 * (i 3).val = (i 3).val; omega
    conv_lhs => rw [← e]
    rw [View.write_emb_of_mem _ _ (Finset.mem_univ _)]
    rfl
  · rw [if_neg h]
    refine View.write_of_not_mem _ _ _ ?_
    intro hi
    refine h ?_
    have hi' : i ∈ (Rect.unit (s := S32x4x12x1024) ![c.val, l.val, 0, 0] S1x1x12x1024.size inb).set := by
      rw [← View.set_slice_whole cc0_scratch0]; exact hi
    rw [Rect.mem_set_unit] at hi'
    have h0 := hi' 0
    have h1 := hi' 1
    change c.val ≤ (i 0).val ∧ (i 0).val < c.val + 1 at h0
    change l.val ≤ (i 1).val ∧ (i 1).val < l.val + 1 at h1
    omega

/-- The memory while the device fills its own slot. -/
def Fill (f : Vec F S32x4x12x1024 .bf16) : sProp 𝕄 := iprop(Stage m c ∗ slotPts c (own c) fullShare f)

section

variable {α : Type} {a : α} {off : Fin 4 → ℕ} {inb : ∀ a, off a + S1x1x12x1024.size a ≤ S32x4x12x1024.size a}

theorem Leads.load_row {P' : sProp 𝕄} (l : Fin 4) (f : Vec F S32x4x12x1024 .bf16) {hl : gM.view.LoadsAt (Rect.unit (s := S32x4x12x1024) off S1x1x12x1024.size inb).toLoadRect}
    {k : Vec F S1x1x12x1024 .bf16 → Prog (TpuEff nD τ sig (Elt F) Λ₀ .tc) α}
    (h : ∀ z, Leads c (Fill m c f) (k z) P' a) (hoff : off = ![c.val, l.val, 0, 0]) :
    Leads c (Fill m c f) (.op (.load gM (Rect.unit (s := S32x4x12x1024) off S1x1x12x1024.size inb).toLoadRect hl) k) P' a := by
  refine Leads.step (fun Q => ?_) (h (gM.view.readAt (Elt F) (Rect.unit (s := S32x4x12x1024) off S1x1x12x1024.size inb).toLoadRect f))
  unfold Fill slotPts
  iintro ⟨HS, Hf⟩ Hk
  iapply (wp_load_rect 𝒱₀ (c : Thread nD τ) none Set.univ (m := gM) (r := Rect.unit (s := S32x4x12x1024) off S1x1x12x1024.size inb) (S := slotSet (own c))
    (by rw [show (gM.access (Rect.unit (s := S32x4x12x1024) off S1x1x12x1024.size inb)).set = (Rect.unit (s := S32x4x12x1024) off S1x1x12x1024.size inb).set from View.set_slice_whole cc0_scratch0 _]; exact slot_sub (own c) l inb hoff)) $$ Hf
  iintro Hf
  iapply Hk
  isplitl [HS] <;> iassumption

theorem Leads.store_row {P' : sProp 𝕄} (l : Fin 4) (f : Vec F S32x4x12x1024 .bf16) {pay : FVec F S1x1x12x1024 .bf16}
    {hx : (gM.access (Rect.unit (s := S32x4x12x1024) off S1x1x12x1024.size inb)).Stores Finset.univ} {hm}
    {k : PUnit → Prog (TpuEff nD τ sig (Elt F) Λ₀ .tc) α}
    (h : Leads c (Fill m c (stRow c l.val pay f)) (k ⟨⟩) P' a) (hoff : off = ![c.val, l.val, 0, 0]) :
    Leads c (Fill m c f) (.op (.store gM (Rect.unit (s := S32x4x12x1024) off S1x1x12x1024.size inb) pay Finset.univ hx hm) k) P' a := by
  refine Leads.step (fun Q => ?_) h
  rw [← write_row c l inb hoff pay f]
  unfold Fill slotPts
  iintro ⟨HS, Hf⟩ Hk
  iapply (wp_store 𝒱₀ (c : Thread nD τ) none Set.univ (m := gM) (r := Rect.unit (s := S32x4x12x1024) off S1x1x12x1024.size inb) (S := slotSet (own c))
    (by rw [View.setOn_univ, show (gM.access (Rect.unit (s := S32x4x12x1024) off S1x1x12x1024.size inb)).set = (Rect.unit (s := S32x4x12x1024) off S1x1x12x1024.size inb).set from View.set_slice_whole cc0_scratch0 _]; exact slot_sub (own c) l inb hoff)) $$ Hf
  iintro Hf
  iapply Hk
  isplitl [HS] <;> iassumption

end

theorem stage_x : (Stage m c : sProp 𝕄) ⊢ iprop((xM.view.loc (c : Thread nD τ) ↦{fullShare} (xst m c)) ∗ ((xM.view.loc (c : Thread nD τ) ↦{fullShare} (xst m c)) -∗ Stage m c)) := by
  unfold Stage
  iintro ⟨Hx, H⟩
  isplitl [Hx]; · iexact Hx
  iintro Hx
  isplitl [Hx] <;> iassumption
theorem stage_r : (Stage m c : sProp 𝕄) ⊢ iprop((rM.view.loc (c : Thread nD τ) ↦{fullShare} (rst m c)) ∗ ((rM.view.loc (c : Thread nD τ) ↦{fullShare} (rst m c)) -∗ Stage m c)) := by
  unfold Stage
  iintro ⟨Hx, Hr, H⟩
  isplitl [Hr]; · iexact Hr
  iintro Hr
  isplitl [Hx]; · iexact Hx
  isplitl [Hr] <;> iassumption
theorem stage_w : (Stage m c : sProp 𝕄) ⊢ iprop((wM.view.loc (c : Thread nD τ) ↦{fullShare} (wst m c)) ∗ ((wM.view.loc (c : Thread nD τ) ↦{fullShare} (wst m c)) -∗ Stage m c)) := by
  unfold Stage
  iintro ⟨Hx, Hr, Hw, H⟩
  isplitl [Hw]; · iexact Hw
  iintro Hw
  isplitl [Hx]; · iexact Hx
  isplitl [Hr]; · iexact Hr
  isplitl [Hw] <;> iassumption
theorem fill_w (f : Vec F S32x4x12x1024 .bf16) :
    (Fill m c f : sProp 𝕄) ⊢ iprop((wM.view.loc (c : Thread nD τ) ↦{fullShare} (wst m c)) ∗ ((wM.view.loc (c : Thread nD τ) ↦{fullShare} (wst m c)) -∗ Fill m c f)) := by
  unfold Fill
  iintro ⟨HS, Hf⟩
  ihave HS := (stage_w m c) $$ HS
  icases HS with ⟨Hw, HS⟩
  isplitl [Hw]; · iexact Hw
  iintro Hw
  isplitl [HS Hw]
  · iapply HS; iexact Hw
  iexact Hf

theorem hz2 : (![0, 0] : Fin 2 → ℕ) = fun _ => 0 := by decide

/-! ## The barrier's wait, and the route -/

/-- What the device holds before the barrier besides the signals. -/
def Bar : sProp 𝕄 := iprop(levAts L lv ∗ cred (tallyAt (barCell c) () 31) ∗ atPos EG (barCell c) 0 ∅ 0)

/-- What it holds after: the slots that the other devices left it to fill. -/
def Opened : sProp 𝕄 :=
  iprop(records m K ∗ levAts L lv ∗ (∃ W, owes (c : Thread nD τ) (Ow 0 c) W) ∗ semVal (barCell c) 0
    ∗ bigSep Finset.univ fun k => iprop(∃ f, slotPts (F := F) (tgt k c) (sl k c) fullShare f))

theorem Leads.wait_bar {R P' : sProp 𝕄} {α : Type} {a : α} {k : PUnit → Prog (TpuEff nD τ sig (Elt F) Λ₀ .tc) α} {k' : ℕ}
    (h : Leads c iprop(Opened m K c ∗ R) (k ⟨⟩) P' a) (hk : k' = 31) :
    Leads c iprop(Sig m K c 31 ∗ Bar c ∗ R) (.op (.semWait barS k') k) P' a := by
  subst hk
  refine Leads.step (fun Q => ?_) h
  unfold Sig Bar Opened
  rw [Os_end]
  iintro ⟨⟨#HR, ⟨%W, HO⟩, -⟩, ⟨#HL, Hc, Hat⟩, HRest⟩ Hk
  iapply (Rounds.wp_wait_rest_token 𝒱₀ EG (Rd m) (c : Thread nD τ) none (κ := K (c, .bar))
      (wpE_semWait_eq 𝒱₀ (c : Thread nD τ) none Set.univ) (Set.mem_univ _) () (O := Ow 0 c) (W := W) (R := 0) (m := 0) (T := ∅)
      (by rw [Nat.zero_add, expect_bar])) $$ [Hc HO Hat]
  · isplitr; · iapply (inv_at m K (c, .bar)); iexact HR
    isplitl [Hc]; · iexact Hc
    isplitl [HO]; · iexact HO
    isplitr; · iapply (mayWait_bar c); iexact HL
    iexact Hat
  iintro ⟨HO, Hat, -, Hpay⟩
  ihave HP := (Entails.of_eq (rest_bar m c)) $$ Hpay
  imod (Rounds.cell_close EG (Rd m) (Set.mem_univ (K (c, .bar))) (fun h => h) (R := 0 + 1) (duties_later m (barCell c))) $$ [Hat] with Hz
  · isplitr; · iapply (inv_at m K (c, .bar)); iexact HR
    iexact Hat
  iapply Hk
  isplitl [HO Hz HP]
  · isplitr; · iexact HR
    isplitr; · iexact HL
    isplitl [HO]; · iexists _; iexact HO
    isplitl [Hz] <;> iassumption
  iexact HRest

theorem Leads.signal' {R P' : sProp 𝕄} {α : Type} {a : α} {k : PUnit → Prog (TpuEff nD τ sig (Elt F) Λ₀ .tc) α} (n : ℕ) (i : Fin 31) {d : Dev nD} {k' : ℕ}
    (h : Leads c iprop(Sig m K c (n + 1) ∗ R) (k ⟨⟩) P' a) (hn : i.val = n) (hd : d.val = (c.val + (i.val + 1)) % 32) (hk : k' = 1) :
    Leads c iprop(Sig m K c n ∗ R) (.op (.semSignal (d, (c : Thread nD τ).2) barS k') k) P' a := by
  refine Leads.step (fun Q => ?_) h
  iintro ⟨HS, HR⟩ Hk
  iapply (step_signal m K c n i hn d hd hk) $$ HS
  iintro HS
  iapply Hk
  isplitl [HS] <;> iassumption

theorem part6 :
    Leads c iprop(Sig m K c 28 ∗ Bar c ∗ Stage m c) (k0_part6 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c (v2 c) (SemArray.scalar (sig.barrier 0 rfl)))
      iprop(Opened m K c ∗ Stage m c) ⟨k0_pay1 (rst m c), k0_pay2 (v2 c) (rst m c), k0_pay3 (v2 c) (rst m c), k0_pay4 (F := F)⟩ := by
  rw [k0_part6_eq_skeleton]; unfold k0_part6_skel
  simp only [semSignalWord, semWaitWord, Prog.lift, Prog.bind_op, Prog.bind_ret, Prog.pure_eq_ret]
  refine Leads.signal' m K c 28 28 ?_ rfl (k0_dev29_eq c) rfl
  refine Leads.signal' m K c 29 29 ?_ rfl (k0_dev30_eq c) rfl
  refine Leads.signal' m K c 30 30 ?_ rfl (k0_dev31_eq c) rfl
  refine Leads.wait_bar m K c ?_ rfl
  refine Leads.load c (rst m c) (rst m c) ?_ (Memref.readAt_unit_zero (Elt F) cc0_stg1_0 hz2 _ _) ?_
  · iintro ⟨HO, HS⟩
    ihave HS := (stage_r m c) $$ HS
    icases HS with ⟨Hr, HS⟩
    isplitl [Hr]; · iexact Hr
    iintro Hr
    isplitl [HO]; · iexact HO
    iapply HS; iexact Hr
  exact Leads.ret (F := F) _

theorem part7 (v140 : FVec F S2048x4 .f32) (v156 : FVec F S2048x4 .f32) (v157 : FVec F S16x4 .f32) :
    Leads c (Stage m c) (k0_part7 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 v140 v156 v157) (Stage m c)
      ⟨k0_pay5 v156 v157, k0_pay6 (xst m c), k0_pay7 (F := F), k0_pay8 v140 v156 v157 (xst m c), wl m c 0⟩ := by
  rw [k0_part7_eq_skeleton]; unfold k0_part7_skel
  simp only [Prog.lift, Prog.bind_op, Prog.bind_ret, Prog.pure_eq_ret]
  refine Leads.load c (xst m c) (xst m c) (stage_x m c) (Memref.readAt_unit_zero (Elt F) cc0_stg0_0 hz2 _ _) ?_
  refine Leads.load c (wst m c) (wl m c 0) (stage_w m c) rfl ?_
  exact Leads.ret (F := F) _

theorem part8 (f : Vec F S32x4x12x1024 .bf16) (v2 : BitVec 32) (v140 : FVec F S2048x4 .f32) (v184 : FVec F S2048x4 .f32) (v187 : FVec F S2048x512 .bf16) (v191 : FVec F S1x12 .f32)
    (v203 : FVec F S12x512 .bf16) :
    Leads c (Fill m c f) (k0_part8 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 v140 v184 v187 v191 v203 (wl m c 0))
      (Fill m c (stRow c 1 (k0_pay10 v140 v184 v187 v191 (wl m c 1)) (stRow c 0 (k0_pay9 v203 (wl m c 0)) f))) (k0_pay11 v140 v184 v187 v191) := by
  rw [k0_part8_eq_skeleton]; unfold k0_part8_skel
  simp only [Prog.lift, Prog.bind_op, Prog.bind_ret, Prog.pure_eq_ret]
  refine Leads.load_row m c 0 _ (fun _ => ?_) (k0_off1_eq c)
  refine Leads.store_row m c 0 _ ?_ (k0_off1_eq c)
  refine Leads.load c (wst m c) (wl m c 1) (fill_w m c _) rfl ?_
  refine Leads.load_row m c 1 _ (fun _ => ?_) (k0_off2_eq c)
  refine Leads.store_row m c 1 _ ?_ (k0_off2_eq c)
  exact Leads.ret (F := F) _

theorem part9 (f : Vec F S32x4x12x1024 .bf16) (v2 v3 v4 : BitVec 32) (v140 : FVec F S2048x4 .f32) (v184 : FVec F S2048x4 .f32) (v187 : FVec F S2048x512 .bf16) (v191 : FVec F S1x12 .f32)
    (v247 : FVec F S12x512 .bf16) :
    ∃ w : BitVec 32, Leads c (Fill m c f) (k0_part9 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v2 v3 v4 v140 v184 v187 v191 v247)
      (Fill m c (stRow c 3 (k0_pay13 v140 v184 v187 v191 (wl m c 3)) (stRow c 2 (k0_pay12 v247 (wl m c 2)) f))) w := by
  rw [k0_part9_eq_skeleton]; unfold k0_part9_skel
  simp only [Prog.lift, Prog.bind_op, Prog.bind_ret, Prog.pure_eq_ret]
  refine ⟨?_, ?_⟩
  rotate_left 1
  refine Leads.load c (wst m c) (wl m c 2) (fill_w m c _) rfl ?_
  refine Leads.load_row m c 2 _ (fun _ => ?_) (k0_off3_eq c)
  refine Leads.store_row m c 2 _ ?_ (k0_off3_eq c)
  refine Leads.load c (wst m c) (wl m c 3) (fill_w m c _) rfl ?_
  refine Leads.load_row m c 3 _ (fun _ => ?_) (k0_off4_eq c)
  refine Leads.store_row m c 3 _ ?_ (k0_off4_eq c)
  exact Leads.ret (F := F) _

/-- Once its four blocks are stored, the device's own slot is what it is in a full buffer. -/
theorem filled (f : Vec F S32x4x12x1024 .bf16) (i : S32x4x12x1024.Idx) (hi : i ∈ slotSet (own c)) :
    stRow c 3 (blk m c 3) (stRow c 2 (blk m c 2) (stRow c 1 (blk m c 1) (stRow c 0 (blk m c 0) f))) i = GG m i := by
  rw [mem_slotSet] at hi
  have hc : (⟨(i 0).val, (i 0).isLt⟩ : Dev nD) = c := Fin.ext hi
  have h1 : (i 1).val < 4 := (i 1).isLt
  have key : ∀ l : Fin 4, (i 1).val = l.val → GG m i = blk m c l (rowIdx i) := by
    intro l hl
    unfold GG
    rw [hc, show (⟨(i 1).val, (i 1).isLt⟩ : Fin 4) = l from Fin.ext hl]
  unfold stRow
  have hcond : ∀ l : ℕ, ((i 0).val = c.val ∧ (i 1).val = l) ↔ (i 1).val = l := fun l => ⟨fun h => h.2, fun h => ⟨hi, h⟩⟩
  simp only [hcond]
  obtain h | h | h | h : (i 1).val = 0 ∨ (i 1).val = 1 ∨ (i 1).val = 2 ∨ (i 1).val = 3 := by omega
  · rw [if_neg (by omega), if_neg (by omega), if_neg (by omega), if_pos h, key 0 h]
  · rw [if_neg (by omega), if_neg (by omega), if_pos h, key 1 h]
  · rw [if_neg (by omega), if_pos h, key 2 h]
  · rw [if_pos h, key 3 h]

/-! ## Into and out of the copies -/

/-- What the copies need besides the slots. -/
def Keep : sProp 𝕄 :=
  iprop(bigSep Finset.univ (fun k => iprop(dutyTok EG (sendCell k c) 0 d₀ ∗ dutyTok EG (recvCell k (tgt k c)) 0 d₀))
    ∗ bigSep Finset.univ (fun k => atPos EG (sendCell k c) 0 ∅ 0)
    ∗ bigSep Finset.univ (fun k => iprop(atPos EG (recvCell k c) 0 ∅ 0 ∗ cred (tallyAt (recvCell k c) () N))))

theorem sendTok_of (k : Fin 31) : iprop((dutyTok EG (sendCell k c) 0 d₀ ∗ dutyTok EG (recvCell k (tgt k c)) 0 d₀)
    ∗ ∃ f, slotPts (F := F) (tgt k c) (sl k c) fullShare f) ⊢ (sendTok (F := F) c k : sProp 𝕄) := by
  unfold sendTok
  iintro ⟨⟨H1, H2⟩, H3⟩
  isplitl [H1]; · iexact H1
  isplitl [H2] <;> iassumption

theorem enter : iprop(Opened m K c ∗ Keep c ∗ slotPts c (own c) fullShare (GG m)) ⊢ (iprop(X m K c 0 0 0 ∗ semVal (barCell c) 0) : sProp 𝕄) := by
  unfold Opened Keep X
  rw [deal m c 0 (own c) (sl_grp0 c), toSend_zero, atHand_zero, sent_none, ahead_all, past_none, kept_small 0 (by decide), bigSep_empty, bigSep_empty, bigSep_empty, bigSep_empty]
  iintro ⟨⟨#HR, #HL, HO, Hz, HS⟩, ⟨HT, HA, HB⟩, HP⟩
  isplitr [Hz]
  · isplitr; · iexact HR
    isplitr; · iexact HL
    isplitl [HO]; · iexact HO
    isplitl [HT HS]
    · iapply (show iprop(bigSep Finset.univ (fun k => iprop(dutyTok EG (sendCell k c) 0 d₀ ∗ dutyTok EG (recvCell k (tgt k c)) 0 d₀))
          ∗ bigSep Finset.univ (fun k => iprop(∃ f, slotPts (F := F) (tgt k c) (sl k c) fullShare f))) ⊢ bigSep Finset.univ (sendTok (F := F) c) from by
        refine (Entails.of_eq (bigSep_sep' Finset.univ _ _).symm).trans (bigSep_mono fun k _ => sendTok_of c k))
      isplitl [HT] <;> iassumption
    isplitl [HP]; · iexact HP
    isplitl []; · iempintro
    isplitl [HA]; · iexact HA
    isplitl []; · iempintro
    isplitl [HB]; · iexact HB
    isplitl [] <;> iempintro
  iexact Hz

/-- What the device holds when all copies are over. -/
def Done : sProp 𝕄 :=
  iprop((∃ W, owes (c : Thread nD τ) 0 W) ∗ bigSep Finset.univ (fun k => semVal (sendCell k c) 0) ∗ bigSep Finset.univ (fun k => semVal (recvCell k c) 0)
    ∗ (((c : Thread nD τ).loc cc0_scratch0) ↦{fullShare} (GG m)))

theorem leave : (X m K c 31 31 31 : sProp 𝕄) ⊢ Done m c := by
  unfold X Done
  rw [past_all, Ow_end, slots_eq, bigSep_sep' Finset.univ (fun k => semVal (sendCell k c) 0) (piece m c), pieces_eq, kept_all,
    bigSep_filter_split (s := Finset.univ) (p := fun k : Fin 31 => pos k < 3) (Φ := fun k => slotPts c (rslot k c) fullShare (GG m))]
  iintro ⟨-, -, HO, -, -, -, -, ⟨HS, HP1, HP2⟩, -, HV, HK⟩
  isplitl [HO]; · iexact HO
  isplitl [HS]; · iexact HS
  isplitl [HV]; · iexact HV
  isplitl [HP1]; · iexact HP1
  iapply (show iprop(bigSep (Finset.univ.filter fun k : Fin 31 => pos k < 3) (fun k => slotPts c (rslot k c) fullShare (GG m))
    ∗ bigSep (Finset.univ.filter fun k : Fin 31 => ¬ pos k < 3) (fun k => slotPts c (rslot k c) fullShare (GG m))) ⊢ _ from Entails.refl _)
  isplitl [HP2] <;> iassumption

theorem done_g : (Done m c : sProp 𝕄) ⊢ iprop((gM.view.loc (c : Thread nD τ) ↦{fullShare} (GG m)) ∗ ((gM.view.loc (c : Thread nD τ) ↦{fullShare} (GG m)) -∗ Done m c)) := by
  unfold Done
  iintro ⟨HO, HS, HV, Hg⟩
  isplitl [Hg]; · iexact Hg
  iintro Hg
  isplitl [HO]; · iexact HO
  isplitl [HS]; · iexact HS
  isplitl [HV] <;> iassumption

/-! ## The output -/

theorem gl_inb : ∀ r : Fin 12, ∀ a, (![0, 0, r.val, 0] : Fin 4 → ℕ) a + S32x4x1x1024.size a ≤ S32x4x12x1024.size a := by decide

/-- Row `r` of every block of the full gather buffer. -/
def gat (r : Fin 12) : Vec F S32x4x1x1024 .bf16 :=
  gM.view.readAt (Elt F) (Rect.unit (s := S32x4x12x1024) ![0, 0, r.val, 0] S32x4x1x1024.size (gl_inb r)).toLoadRect (GG m)

def v395 (r : Vec F S2048x1 .i32) : IVec S2048x128 32 := k0_pay14 (k0_pay1 r)
def v445 (r : Vec F S2048x1 .i32) : FVec F S2048x128 .bf16 :=
  k0_pay17 (k0_pay15 (F := F) (iota .tc S1x128 32 [1] iota_S1x128_d1_w32) (v395 r)) (k0_pay16 (F := F) (iota .tc S1x128 32 [1] iota_S1x128_d1_w32) (v395 r))

/-- The matrix that picks each token's row out of the gather buffer. -/
def pick (r : Vec F S2048x1 .i32) : FVec F S2048x1536 .bf16 :=
  k0_pay27 (v445 r) (k0_pay18 (v445 r)) (k0_pay19 (v445 r)) (k0_pay20 (v445 r)) (k0_pay21 (v445 r)) (k0_pay22 (v445 r)) (k0_pay23 (v445 r)) (k0_pay24 (v445 r))
    (k0_pay25 (v445 r)) (k0_pay26 (v445 r))

def outAt : FVec F S2048x1024 .f32 :=
  k0_pay38 (pick (rst m c)) (k0_pay28 (gat m 0)) (k0_pay29 (gat m 1)) (k0_pay30 (gat m 2)) (k0_pay31 (gat m 3)) (k0_pay32 (gat m 4)) (k0_pay33 (gat m 5))
    (k0_pay34 (gat m 6)) (k0_pay35 (gat m 7)) (k0_pay36 (gat m 8)) (k0_pay37 (gat m 9)) (gat m 10) (gat m 11)

theorem part41 (v722 v734 : BitVec 32) :
    Leads c (X m K c 31 30 29) (k0_part41 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 c v722 v734) (Done m c) ⟨k0_pay28 (gat m 0), gat m 1⟩ := by
  rw [k0_part41_eq_skeleton]; unfold k0_part41_skel
  simp only [Prog.lift, Prog.bind_op, Prog.bind_ret, Prog.pure_eq_ret]
  refine Leads.wait_recv m K c 30 29 29 ?_ rfl (by decide) rfl
  refine Leads.wait_send m K c 31 30 30 30 ?_ (by decide) rfl rfl
  refine Leads.wait_recv m K c 31 30 30 ?_ rfl (by decide) rfl
  refine Leads.conseq (P := Done m c) (P' := Done m c) ?_ (leave m K c) (Entails.refl _)
  refine Leads.load c (GG m) (gat m 0) (done_g m c) rfl ?_
  refine Leads.load c (GG m) (gat m 1) (done_g m c) rfl ?_
  exact Leads.ret (F := F) _

theorem part42 :
    Leads c (Done m c) (k0_part42 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6 (gat m 1)) (Done m c)
      ⟨k0_pay29 (gat m 1), k0_pay30 (gat m 2), k0_pay31 (gat m 3), k0_pay32 (gat m 4), k0_pay33 (gat m 5), k0_pay34 (gat m 6), k0_pay35 (gat m 7),
        k0_pay36 (gat m 8), k0_pay37 (gat m 9)⟩ := by
  rw [k0_part42_eq_skeleton]; unfold k0_part42_skel
  simp only [Prog.lift, Prog.bind_op, Prog.bind_ret, Prog.pure_eq_ret]
  refine Leads.load c (GG m) (gat m 2) (done_g m c) rfl ?_
  refine Leads.load c (GG m) (gat m 3) (done_g m c) rfl ?_
  refine Leads.load c (GG m) (gat m 4) (done_g m c) rfl ?_
  refine Leads.load c (GG m) (gat m 5) (done_g m c) rfl ?_
  refine Leads.load c (GG m) (gat m 6) (done_g m c) rfl ?_
  refine Leads.load c (GG m) (gat m 7) (done_g m c) rfl ?_
  refine Leads.load c (GG m) (gat m 8) (done_g m c) rfl ?_
  refine Leads.load c (GG m) (gat m 9) (done_g m c) rfl ?_
  exact Leads.ret (F := F) _

end Cert.Moe

end
-- ==== Proof.Body.lean ====
/-
# The whole body

The pieces in sequence.
-/
module

public import proofs.«01_k».proof.Proof.Mid

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- What the body needs, the staging buffers and its slots included. -/
def Start (f : Vec F S32x4x12x1024 .bf16) : sProp 𝕄 :=
  iprop(Sig m K c 0 ∗ Bar c ∗ Stage m c ∗ Keep c ∗ slotPts c (own c) fullShare f)

/-- What it leaves, before the output is stored. -/
def Finish : sProp 𝕄 := iprop(Done m c ∗ semVal (barCell c) 0 ∗ Stage m c)

theorem Leads.frame_at {P P₀ P₀' P' R : sProp 𝕄} {α : Type} {p : Prog (TpuEff nD τ sig (Elt F) Λ₀ .tc) α} {a : α} (h : Leads c P₀ p P₀' a)
    (h₁ : P ⊢ iprop(P₀ ∗ R)) (h₂ : iprop(P₀' ∗ R) ⊢ P') : Leads c P p P' a :=
  (h.frame R).conseq h₁ h₂

theorem done_g_frame (R : sProp 𝕄) :
    iprop(Done m c ∗ R) ⊢ iprop((gM.view.loc (c : Thread nD τ) ↦{fullShare} (GG m)) ∗ ((gM.view.loc (c : Thread nD τ) ↦{fullShare} (GG m)) -∗ Done m c ∗ R)) := by
  iintro ⟨HD, HR⟩
  ihave HD := (done_g m c) $$ HD
  icases HD with ⟨Hg, HD⟩
  isplitl [Hg]; · iexact Hg
  iintro Hg
  isplitl [HD Hg]
  · iapply HD; iexact Hg
  iexact HR

theorem stage_o : (Stage m c : sProp 𝕄) ⊢ iprop((∃ f, oM.view.loc (c : Thread nD τ) ↦{fullShare} f) ∗ ((∃ f, oM.view.loc (c : Thread nD τ) ↦{fullShare} f) -∗ Stage m c)) := by
  unfold Stage
  iintro ⟨Hx, Hr, Hw, Ho⟩
  isplitl [Ho]; · iexact Ho
  iintro Ho
  isplitl [Hx]; · iexact Hx
  isplitl [Hr]; · iexact Hr
  isplitl [Hw] <;> iassumption

/-- A load whose value is not used. -/
theorem Leads.load_out {P P' : sProp 𝕄} {α : Type} {a : α} {r : LoadRect S2048x1024} {hl : oM.view.LoadsAt r}
    {k : (r.shape.Idx → Elt F .f32) → Prog (TpuEff nD τ sig (Elt F) Λ₀ .tc) α} (h : ∀ z, Leads c P (k z) P' a)
    (hP : P ⊢ iprop(∃ f, (oM.view.loc (c : Thread nD τ) ↦{fullShare} f) ∗ ((oM.view.loc (c : Thread nD τ) ↦{fullShare} f) -∗ P))) :
    Leads c P (.op (.load oM r hl) k) P' a := by
  intro Q
  iintro HP Hk
  ihave HP := hP $$ HP
  icases HP with ⟨%f, Hf, HP⟩
  iapply (wp_load 𝒱₀ (c : Thread nD τ) none Set.univ (S := Finset.univ) (Finset.subset_univ _)) $$ Hf
  iintro Hf
  ihave HP := HP $$ Hf
  iapply (h _ Q) $$ HP
  iexact Hk

theorem part43 (f : Vec F S32x4x12x1024 .bf16) :
    Leads c (Start m K c f) (k0_part43 (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6) (Finish m c) (outAt m c) := by
  rw [k0_part43_eq_skeleton]; unfold k0_part43_skel
  simp only [Prog.lift, Prog.bind_op, Prog.bind_ret, Prog.pure_eq_ret]
  -- the signals
  unfold Start
  refine Leads.bind (((part1 m K c).frame _)) ?_
  refine Leads.bind ((part2 m K c _).frame _) ?_
  refine Leads.bind ((part3 m K c _).frame _) ?_
  refine Leads.bind ((part4 m K c _).frame _) ?_
  refine Leads.bind ((part5 m K c _).frame _) ?_
  -- the barrier and the loads
  refine Leads.bind (P' := iprop(Opened m K c ∗ Stage m c ∗ Keep c ∗ slotPts c (own c) fullShare f))
    ((part6 m K c).frame_at c (R := iprop(Keep c ∗ slotPts c (own c) fullShare f)) ?_ ?_) ?_
  · iintro ⟨H1, H2, H3, H4⟩
    isplitl [H1 H2 H3]
    · isplitl [H1]; · iexact H1
      isplitl [H2] <;> iassumption
    iexact H4
  · iintro ⟨⟨H1, H2⟩, H3⟩
    isplitl [H1]; · iexact H1
    isplitl [H2] <;> iassumption
  refine Leads.bind (P' := iprop(Fill m c f ∗ Opened m K c ∗ Keep c))
    ((part7 m c _ _ _).frame_at c (R := iprop(slotPts c (own c) fullShare f ∗ Opened m K c ∗ Keep c)) ?_ ?_) ?_
  · iintro ⟨H1, H2, H3, H4⟩
    isplitl [H2]; · iexact H2
    isplitl [H4]; · iexact H4
    isplitl [H1] <;> iassumption
  · unfold Fill
    iintro ⟨H1, H2, H3⟩
    isplitl [H1 H2]
    · isplitl [H1] <;> iassumption
    iexact H3
  -- the stores
  refine Leads.bind ((part8 m c f _ _ _ _ _ _).frame _) ?_
  obtain ⟨w283, h9⟩ := part9 m c (stRow c 1 (blk m c 1) (stRow c 0 (blk m c 0) f)) (v2 c) (Scalar.divsi (v2 c) 8#32) (Scalar.remsi (v2 c) 8#32)
    (k0_pay2 (v2 c) (rst m c)) (k0_pay5 (k0_pay3 (v2 c) (rst m c)) (k0_pay4 (F := F))) (k0_pay6 (xst m c)) (k0_pay7 (F := F))
    (k0_pay11 (k0_pay2 (v2 c) (rst m c)) (k0_pay5 (k0_pay3 (v2 c) (rst m c)) (k0_pay4 (F := F))) (k0_pay6 (xst m c)) (k0_pay7 (F := F)))
  refine Leads.bind (P' := iprop(X m K c 0 0 0 ∗ semVal (barCell c) 0 ∗ Stage m c)) (h9.frame_at c (R := iprop(Opened m K c ∗ Keep c)) (Entails.refl _) ?_) ?_
  · unfold Fill slotPts
    rw [pointsTo_congr fun i hi => filled m c f i hi]
    iintro ⟨⟨H1, H2⟩, H3, H4⟩
    ihave HX := (enter m K c) $$ [H2 H3 H4]
    · isplitl [H3]; · iexact H3
      isplitl [H4]; · iexact H4
      unfold slotPts; iexact H2
    icases HX with ⟨HX, Hz⟩
    isplitl [HX]; · iexact HX
    isplitl [Hz] <;> iassumption
  -- the copies
  obtain ⟨_, _, h10⟩ := part10 m K c (Scalar.divsi (v2 c) 8#32) (Scalar.remsi (v2 c) 8#32)
  refine Leads.bind (h10.frame _) ?_
  obtain ⟨_, _, _, h11⟩ := part11 m K c (Scalar.divsi (v2 c) 8#32) (Scalar.remsi (v2 c) 8#32)
  refine Leads.bind (h11.frame _) ?_
  obtain ⟨_, _, _, h12⟩ := part12 m K c (v2 c) (Scalar.divsi (v2 c) 8#32) (Scalar.remsi (v2 c) 8#32) _ _
  refine Leads.bind (h12.frame _) ?_
  obtain ⟨_, _, h13⟩ := part13 m K c (v2 c) (k0_pay1 (rst m c))
  refine Leads.bind (h13.frame _) ?_
  refine Leads.bind ((part14 m K c (iota .tc S1x128 32 [1] iota_S1x128_d1_w32) (v395 (rst m c))).frame _) ?_
  obtain ⟨_, h15⟩ := part15 m K c (Scalar.divsi (v2 c) 8#32) (Scalar.remsi (v2 c) 8#32) _ (k0_pay15 (F := F) (iota .tc S1x128 32 [1] iota_S1x128_d1_w32) (v395 (rst m c))) (k0_pay16 (F := F) (iota .tc S1x128 32 [1] iota_S1x128_d1_w32) (v395 (rst m c)))
  refine Leads.bind (h15.frame _) ?_
  obtain ⟨_, _, h16⟩ := part16 m K c (Scalar.divsi (v2 c) 8#32) (Scalar.remsi (v2 c) 8#32)
  refine Leads.bind (h16.frame _) ?_
  obtain ⟨_, _, _, h17⟩ := part17 m K c (Scalar.divsi (v2 c) 8#32) (Scalar.remsi (v2 c) 8#32) _
  refine Leads.bind (h17.frame _) ?_
  obtain ⟨_, h18⟩ := part18 m K c (Scalar.divsi (v2 c) 8#32) (Scalar.remsi (v2 c) 8#32) _
  refine Leads.bind (h18.frame _) ?_
  obtain ⟨_, _, _, h19⟩ := part19 m K c (Scalar.divsi (v2 c) 8#32) (Scalar.remsi (v2 c) 8#32) _ _
  refine Leads.bind (h19.frame _) ?_
  obtain ⟨_, _, h20⟩ := part20 m K c (Scalar.divsi (v2 c) 8#32) (Scalar.remsi (v2 c) 8#32) _
  refine Leads.bind (h20.frame _) ?_
  obtain ⟨_, _, h21⟩ := part21 m K c (Scalar.divsi (v2 c) 8#32) (Scalar.remsi (v2 c) 8#32)
  refine Leads.bind (h21.frame _) ?_
  obtain ⟨_, _, h22⟩ := part22 m K c (Scalar.divsi (v2 c) 8#32) (Scalar.remsi (v2 c) 8#32) _ _
  refine Leads.bind (h22.frame _) ?_
  obtain ⟨_, _, _, h23⟩ := part23 m K c (Scalar.divsi (v2 c) 8#32) (Scalar.remsi (v2 c) 8#32) _
  refine Leads.bind (h23.frame _) ?_
  obtain ⟨_, _, _, _, h24⟩ := part24 m K c (Scalar.divsi (v2 c) 8#32) (Scalar.remsi (v2 c) 8#32) _ _
  refine Leads.bind (h24.frame _) ?_
  obtain ⟨_, _, h25⟩ := part25 m K c (Scalar.divsi (v2 c) 8#32) (Scalar.remsi (v2 c) 8#32) _
  refine Leads.bind (h25.frame _) ?_
  refine Leads.bind ((part26 m K c (v445 (rst m c))).frame _) ?_
  refine Leads.bind ((part27 m K c _ (v445 (rst m c)) _ _ _ _ _ _ _ _ _).frame _) ?_
  refine Leads.bind ((part28 m K c _ _).frame _) ?_
  refine Leads.bind ((part29 m K c _ _).frame _) ?_
  refine Leads.bind ((part30 m K c _ _).frame _) ?_
  refine Leads.bind ((part31 m K c _ _).frame _) ?_
  refine Leads.bind ((part32 m K c _ _).frame _) ?_
  refine Leads.bind ((part33 m K c _ _).frame _) ?_
  refine Leads.bind ((part34 m K c _ _).frame _) ?_
  refine Leads.bind ((part35 m K c _ _).frame _) ?_
  refine Leads.bind ((part36 m K c _ _).frame _) ?_
  refine Leads.bind ((part37 m K c _ _).frame _) ?_
  obtain ⟨_, h38⟩ := part38 m K c _ _
  refine Leads.bind (h38.frame _) ?_
  refine Leads.bind ((part39 m K c _ _).frame _) ?_
  refine Leads.bind ((part40 m K c _ _).frame _) ?_
  -- the loads of the full buffer
  refine Leads.bind ((part41 m K c _ _).frame _) ?_
  refine Leads.bind ((part42 m c).frame _) ?_
  refine Leads.load c (GG m) (gat m 10) (done_g_frame m c _) rfl ?_
  refine Leads.load c (GG m) (gat m 11) (done_g_frame m c _) rfl ?_
  refine Leads.load_out c (fun _ => ?_) ?_
  · exact (Leads.ret (F := F) _).conseq (Entails.refl _) (by
      unfold Finish
      iintro ⟨H1, H2, H3⟩
      isplitl [H1]; · iexact H1
      isplitl [H2] <;> iassumption)
  · iintro ⟨HD, Hz, HS⟩
    ihave HS := (stage_o m c) $$ HS
    icases HS with ⟨⟨%fo, Ho⟩, HS⟩
    iexists fo
    isplitl [Ho]; · iexact Ho
    iintro Ho
    isplitl [HD]; · iexact HD
    isplitl [Hz]; · iexact Hz
    iapply HS; iexists fo; iexact Ho

/-- What the body leaves: the output's staging buffer at `outAt`. -/
def End : sProp 𝕄 :=
  iprop(Done m c ∗ semVal (barCell c) 0 ∗ (((c : Thread nD τ).loc cc0_stg0_0) ↦{fullShare} (xst m c)) ∗ (((c : Thread nD τ).loc cc0_stg1_0) ↦{fullShare} (rst m c))
    ∗ (((c : Thread nD τ).loc cc0_stg2_0) ↦{fullShare} (wst m c)) ∗ (((c : Thread nD τ).loc cc0_stg3_0) ↦{fullShare} (outAt m c)))

theorem body_run (f : Vec F S32x4x12x1024 .bf16) : Leads c (Start m K c f) (cc0_body (F := F) xM (Memref.isWhole_whole _) rM (Memref.isWhole_whole _) wM (Memref.isWhole_whole _) oM (Memref.isWhole_whole _) gM (Memref.isWhole_whole _) cc0_scratch1 cc0_scratch2 cc0_scratch3 cc0_scratch4 cc0_scratch5 cc0_scratch6) (End m c) ⟨⟩ := by
  rw [cc0_body_eq_skeleton]; unfold cc0_body_skel
  simp only [Prog.lift, Prog.bind_op, Prog.bind_ret, Prog.pure_eq_ret]
  refine Leads.bind (part43 m K c f) ?_
  refine Leads.step (z := PUnit.unit) (fun Q => ?_) (Leads.ret (F := F) _)
  unfold Finish Stage End
  iintro ⟨HD, Hz, Hx, Hr, Hw, ⟨%fo, Ho⟩⟩ Hk
  iapply (wp_store 𝒱₀ (c : Thread nD τ) none Set.univ (m := oM) (r := Rect.unit (s := S2048x1024) ![0, 0] S2048x1024.size inb_S2048x1024_S2048x1024_0_0) (S := Finset.univ) (Finset.subset_univ _)) $$ Ho
  iintro Ho
  rw [show ∀ inb, (oM.access (Rect.unit (s := S2048x1024) ![0, 0] S2048x1024.size inb) : View sig .tc _ _ _).write (Elt F) fo (outAt m c) Finset.univ = outAt m c from
    fun inb => Memref.write_access_unit_zero_univ (Elt F) cc0_stg3_0 hz2 inb fo (outAt m c)]
  iapply Hk
  isplitl [HD]; · iexact HD
  isplitl [Hz]; · iexact Hz
  isplitl [Hx]; · iexact Hx
  isplitl [Hr]; · iexact Hr
  isplitl [Hw]; · iexact Hw
  iexact Ho

end Cert.Moe

end
-- ==== Proof.Launch.lean ====
/-
# The launch

Every device's cells are allocated at once and the tokens of what each device pays into other devices' cells are dealt around; the
credits of a device's cells are counted from what the devices owe; then the run of the whole program follows from that of the body.
-/
module

public import proofs.«01_k».proof.Proof.Body
public import Idealize.ShloMosaic.Lib.Pipeline.CollectiveSegs
public import Idealize.ShloMosaic.Lib.Quiescent

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Families over the cells of a device, and over devices -/

def cellSum : Unit ⊕ (Fin 31 ⊕ Fin 31) ≃ Cell where
  toFun | .inl _ => .bar | .inr (.inl k) => .send k | .inr (.inr k) => .recv k
  invFun | .bar => .inl () | .send k => .inr (.inl k) | .recv k => .inr (.inr k)
  left_inv x := by rcases x with _ | k | k <;> rfl
  right_inv x := by cases x <;> rfl

theorem over_cells (Φ : Cell → sProp 𝕄) :
    bigSep Finset.univ Φ = iprop(Φ .bar ∗ bigSep Finset.univ (fun k => Φ (.send k)) ∗ bigSep Finset.univ (fun k => Φ (.recv k))) := by
  rw [bigSep_univ_equiv cellSum, bigSep_univ_sum, bigSep_univ_sum, Finset.univ_unique, bigSep_singleton]
  rfl

/-- A family over devices and copies, moved by a permutation of the devices at each copy. -/
theorem around (e : Fin 31 → Dev nD ≃ Dev nD) (Φ : Dev nD → Fin 31 → sProp 𝕄) :
    (bigSep Finset.univ fun c => bigSep Finset.univ fun k => Φ c k) = bigSep Finset.univ fun c => bigSep Finset.univ fun k => Φ (e k c) k := by
  have h := bigSep_univ_equiv (⟨fun p => (e p.2 p.1, p.2), fun p => ((e p.2).symm p.1, p.2), fun p => by simp, fun p => by simp⟩ : Dev nD × Fin 31 ≃ Dev nD × Fin 31)
    (fun p : Dev nD × Fin 31 => Φ p.1 p.2)
  rw [bigSep_univ_prod, bigSep_univ_prod] at h
  exact h

/-! ## What a device starts from -/

def linear : sProp 𝕄 :=
  iprop((bigSep Finset.univ fun x => atPos EG (kcell (c, x)) 0 ∅ 0)
    ∗ (bigSep Finset.univ fun i => dutyTok EG (barCell (sh i c)) 0 c)
    ∗ (bigSep Finset.univ fun k => dutyTok EG (sendCell k c) 0 d₀) ∗ (bigSep Finset.univ fun k => dutyTok EG (recvCell k (tgt k c)) 0 d₀))

def G' : sProp 𝕄 := iprop(∃ K, records m K ∗ linear c)

def start : sProp 𝕄 :=
  iprop(G' m c ∗ cred (tallyAt (barCell c) () 31) ∗ (bigSep Finset.univ fun k => cred (tallyAt (recvCell k c) () N)) ∗ levAts L lv)

def Φ₀ : sProp 𝕄 := iprop(start m c ∗ ∃ f, ((c : Thread nD τ).loc cc0_scratch0) ↦{fullShare} f)
def Φ₁ : sProp 𝕄 :=
  iprop((((c : Thread nD τ).loc cc0_scratch0) ↦{fullShare} (GG m))
    ∗ (bigSep Finset.univ fun k => semVal (sendCell k c) 0) ∗ (bigSep Finset.univ fun k => semVal (recvCell k c) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xst m c
    | ⟨1, _⟩ => rst m c
    | ⟨2, _⟩ => wst m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem begin (f : Buf (Elt F) ((c : Thread nD τ).loc cc0_scratch0)) :
    iprop(records m K ∗ linear c ∗ cred (tallyAt (barCell c) () 31) ∗ (bigSep Finset.univ fun k => cred (tallyAt (recvCell k c) () N)) ∗ levAts L lv
        ∗ (((c : Thread nD τ).loc cc0_scratch0) ↦{fullShare} f) ∗ (∃ W, owes (c : Thread nD τ) (O₀ c) W) ∗ Stage m c)
      ⊢ (Start m K c f : sProp 𝕄) := by
  unfold linear Start Sig Bar Keep O₀
  have hs : (bigSep Finset.univ fun k => slotPts (F := F) c (rslot k c) fullShare f) ⊢ bigSep Finset.univ fun i => barPay (F := F) (sh i c) c := by
    rw [← supply_bar c]
    have h1 (k : Fin 31) : slotPts (F := F) c (rslot k c) fullShare f ⊢ iprop(∃ f, slotPts (F := F) c (rslot k c) fullShare f) := by
      iintro H; iexists f; iexact H
    exact bigSep_mono fun k _ => h1 k
  rw [slots_eq, toSend_zero, over_cells]
  have ht : (bigSep Finset.univ (sigTok (F := F) c) : sProp 𝕄)
      = iprop((bigSep Finset.univ fun i => dutyTok EG (barCell (sh i c)) 0 c) ∗ bigSep Finset.univ fun i => barPay (F := F) (sh i c) c) := by
    unfold sigTok; exact bigSep_sep' _ _ _
  rw [ht, bigSep_sep' Finset.univ (fun k => dutyTok EG (sendCell k c) 0 d₀) (fun k => dutyTok EG (recvCell k (tgt k c)) 0 d₀),
    bigSep_sep' Finset.univ (fun k => atPos EG (recvCell k c) 0 ∅ 0) (fun k => cred (tallyAt (recvCell k c) () N))]
  iintro ⟨#HR, ⟨⟨HaB, HaS, HaV⟩, HtB, HtS, HtV⟩, HcB, HcV, HL, ⟨Ho, Hs⟩, HO, HSt⟩
  ihave Hs := hs $$ Hs
  isplitl [HO HtB Hs]
  · isplitr; · iexact HR
    isplitl [HO]; · iexact HO
    isplitl [HtB] <;> iassumption
  isplitl [HL HcB HaB]
  · isplitl [HL]; · iexact HL
    isplitl [HcB]; · iexact HcB
    iexact HaB
  isplitl [HSt]; · iexact HSt
  isplitr [Ho]
  · isplitl [HtS HtV]
    · isplitl [HtS] <;> iassumption
    isplitl [HaS]; · iexact HaS
    isplitl [HaV]; · iexact HaV
    iexact HcV
  iexact Ho

/-! ## The body as the pipeline calls it -/

theorem fetch_0 (t : Fin cfg0.N) : (cfg0.win (0 : Fin 4)).fetch t = true := fetch0_0 t
theorem fetch_1 (t : Fin cfg0.N) : (cfg0.win (1 : Fin 4)).fetch t = true := fetch0_1 t
theorem fetch_2 (t : Fin cfg0.N) : (cfg0.win (2 : Fin 4)).fetch t = true := fetch0_2 t

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost : sProp 𝕄 :=
  iprop(Φ₁ m c ∗ (dats m 0 c).owesAt () t0_0.succ ∗ stg c cc0_stg0_0 (xst m c) ∗ stg c cc0_stg1_0 (rst m c) ∗ stg c cc0_stg2_0 (wst m c)
    ∗ stg c cc0_stg3_0 (outAt m c))

theorem before_x (d) : (dats m 0 c).before (0 : Fin 4) t0_0 d = xst m c := by unfold Dat.before; rw [if_pos (fetch_0 t0_0)]; rfl
theorem before_r (d) : (dats m 0 c).before (1 : Fin 4) t0_0 d = rst m c := by unfold Dat.before; rw [if_pos (fetch_1 t0_0)]; rfl
theorem before_w (d) : (dats m 0 c).before (2 : Fin 4) t0_0 d = wst m c := by unfold Dat.before; rw [if_pos (fetch_2 t0_0)]; rfl

theorem pre_start : (bodyPre m c : sProp 𝕄) ⊢ iprop(∃ K f, Start m K c f) := by
  unfold bodyPre Φ₀ start G' Dat.owesAt Pipeline.owesWithin
  rw [show (dats m 0 c).owed t0_0.castSucc = O₀ c from rfl]
  iintro ⟨⟨⟨⟨%K, HR, Hlin⟩, HcB, HcV, HL⟩, ⟨%f, Hg⟩⟩, ⟨%W, %hW, HO⟩, ⟨%d0, %g0, %hg0, Hx⟩, ⟨%d1, %g1, %hg1, Hr⟩, ⟨%d2, %g2, %hg2, Hw⟩, ⟨%d3, %g3, %hg3, Ho⟩⟩
  rw [before_x] at hg0
  rw [before_r] at hg1
  rw [before_w] at hg2
  subst hg0 hg1 hg2
  iexists K, f
  iapply (begin m K c f)
  isplitl [HR]; · iexact HR
  isplitl [Hlin]; · iexact Hlin
  isplitl [HcB]; · iexact HcB
  isplitl [HcV]; · iexact HcV
  isplitl [HL]; · iexact HL
  isplitl [Hg]; · iexact Hg
  isplitl [HO]; · iexists W; iexact HO
  unfold Stage
  isplitl [Hx]; · iexact Hx
  isplitl [Hr]; · iexact Hr
  isplitl [Hw]; · iexact Hw
  iexists g3; iexact Ho

theorem end_post : (End m c : sProp 𝕄) ⊢ bodyPost m c := by
  unfold End Done bodyPost Φ₁ Dat.owesAt Pipeline.owesWithin
  rw [show (dats m 0 c).owed t0_0.succ = 0 from rfl]
  iintro ⟨⟨⟨%W, HO⟩, HS, HV, Hg⟩, Hz, Hx, Hr, Hw, Ho⟩
  isplitl [Hg HS HV Hz]
  · isplitl [Hg]; · iexact Hg
    isplitl [HS]; · iexact HS
    isplitl [HV] <;> iassumption
  isplitl [HO]
  · iexists W
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Ho

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- The pipeline's obligation on the body of device `c`. -/
theorem body_obligation : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ (c : Thread nD τ) none) Set.univ
    (cc0_body (F := F) xM (Memref.isWhole_whole _) rM (Memref.isWhole_whole _) wM (Memref.isWhole_whole _) oM (Memref.isWhole_whole _) gM (Memref.isWhole_whole _)
      cc0_scratch1 cc0_scratch2 cc0_scratch3 cc0_scratch4 cc0_scratch5 cc0_scratch6) (fun _ => bodyPost m c)
  iintro H
  ihave H := (pre_start m c) $$ H
  icases H with ⟨%K, %f, H⟩
  iapply (body_run m K c f (fun _ => bodyPost m c)) $$ H
  iintro H
  iapply (end_post m c); iexact H

/-! ## The ghost state at launch -/

abbrev osem : Fin 31 ⊕ Fin 31 → SemLoc sig := Sum.elim (fun k => .dma (sendS k)) (fun k => .dma (recvS k))

theorem ownSemFacts : Pipeline.OwnSemFacts cfg0.spec osem where
  isScoped k := by revert k; decide +kernel
  inj := by
    rintro (k | k) (k' | k') h <;> have h' : (_ : DmaSem sig) = _ := SemLoc.dma.inj h
    · rw [send_inj h']
    · exact absurd h' (send_ne_recv k k')
    · exact absurd h'.symm (send_ne_recv k' k)
    · rw [recv_inj h']
  disj k w s h := by
    have h4 : ∀ (w : Fin 4) (s : Fin (spec0 w).nbuf), ((spec0 w).sem s).val < 4 := by decide
    have hw := h4 w s
    rcases k with k | k <;> have h' : (_ : DmaSem sig) = _ := SemLoc.dma.inj h
    · have := send_ge k; rw [h'] at this; exact absurd this (Nat.not_le.mpr hw)
    · have := recv_ge k; rw [h'] at this; exact absurd this (Nat.not_le.mpr hw)

theorem share_eq (w : Fin cfg0.W) : (dats m 0 c).share w = fullShare := by unfold Dat.share; split <;> rfl

theorem csem_inj {x y : Cell} (h : csem x = csem y) : x = y := by
  rcases x with _ | k | k <;> rcases y with _ | k' | k'
  · rfl
  · exact (fun h : (SemLoc.reg barS : SemLoc sig) = .dma (sendS k') => nomatch h) h
  · exact (fun h : (SemLoc.reg barS : SemLoc sig) = .dma (recvS k') => nomatch h) h
  · exact (fun h : (SemLoc.dma (sendS k) : SemLoc sig) = .reg barS => nomatch h) h
  · rw [send_inj (SemLoc.dma.inj h)]
  · exact absurd (SemLoc.dma.inj h) (send_ne_recv k k')
  · exact (fun h : (SemLoc.dma (recvS k) : SemLoc sig) = .reg barS => nomatch h) h
  · exact absurd (SemLoc.dma.inj h).symm (send_ne_recv k' k)
  · rw [recv_inj (SemLoc.dma.inj h)]

theorem kcell_inj : Function.Injective (kcell : Dev nD × Cell → GSem nD τ sig) := by
  rintro ⟨c, x⟩ ⟨c', x'⟩ h
  have h1 : c = c' := congrArg (fun g : GSem nD τ sig => g.1.1) h
  have h2 : csem x = csem x' := congrArg Prod.snd h
  rw [h1, csem_inj h2]

def theCells : Finset (GSem nD τ sig) := Finset.univ.map ⟨kcell, kcell_inj⟩

/-- The duties of a device's cells: one per signal it gets, one per send cell, one per receive cell. -/
def tokOf (p : Dev nD × (Fin 31 ⊕ (Fin 31 ⊕ Fin 31))) : GSem nD τ sig × ℕ × Dev nD := match p.2 with
  | .inl i => (barCell p.1, 0, hs i p.1)
  | .inr (.inl k) => (sendCell k p.1, 0, d₀)
  | .inr (.inr k) => (recvCell k p.1, 0, d₀)

theorem tokOf_inj : Function.Injective tokOf := by
  rintro ⟨c, x⟩ ⟨c', x'⟩ h
  have h1 : c = c' := by
    have := congrArg (fun t : GSem nD τ sig × ℕ × Dev nD => t.1.1.1) h
    rcases x with i | k | k <;> rcases x' with i' | k' | k' <;> exact this
  subst h1
  have h2 := congrArg (fun t : GSem nD τ sig × ℕ × Dev nD => t.1.2) h
  have h3 := congrArg (fun t : GSem nD τ sig × ℕ × Dev nD => t.2.2) h
  rcases x with i | k | k <;> rcases x' with i' | k' | k'
  · have : hs i c = hs i' c := h3
    rw [hs_inj c i i' this]
  · exact nomatch h2
  · exact nomatch h2
  · exact nomatch h2
  · rw [send_inj (SemLoc.dma.inj h2)]
  · exact absurd (SemLoc.dma.inj h2) (send_ne_recv k k')
  · exact nomatch h2
  · exact absurd (SemLoc.dma.inj h2).symm (send_ne_recv k' k)
  · rw [recv_inj (SemLoc.dma.inj h2)]

def theToks : Finset (GSem nD τ sig × ℕ × Dev nD) := Finset.univ.map ⟨tokOf, tokOf_inj⟩

def u₀ : UU := (initOf (Pipeline.cells cfgs cellOf_inj) (Pipeline.launchToks cfgs cellOf_inj), initOf theCells theToks)

def toks : sProp 𝕄 :=
  iprop((bigSep Finset.univ fun i => dutyTok EG (barCell c) 0 (hs i c))
    ∗ (bigSep Finset.univ fun k => dutyTok EG (sendCell k c) 0 d₀) ∗ (bigSep Finset.univ fun k => dutyTok EG (recvCell k c) 0 d₀))

def G : sProp 𝕄 :=
  iprop((bigSep Finset.univ fun x => roundState EG (Rd m) (kcell (c, x)) 0)
    ∗ (bigSep Finset.univ fun x => atPos EG (kcell (c, x)) 0 ∅ 0) ∗ (bigSep Finset.univ fun x => reached EG (kcell (c, x)) 0) ∗ toks c)

theorem fund_cells : BI.own (EG (initOf theCells theToks)) ⊢ (|==> bigSep Finset.univ (G m) : sProp 𝕄) := by
  have hX (Φ : GSem nD τ sig → sProp 𝕄) : bigSep theCells Φ = bigSep Finset.univ fun c : Dev nD => bigSep Finset.univ fun x => Φ (kcell (c, x)) := by
    unfold theCells; rw [bigSep_map, bigSep_univ_prod]; rfl
  have hT : bigSep theToks (fun x => (dutyTok EG x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund EG (Rd m) theCells theToks) $$ HX with ⟨Hst, Hr, Hat, Htok⟩
  imodintro
  ihave Hst' := (Entails.of_eq (hX fun g => roundState EG (Rd m) g 0)) $$ Hst
  ihave Hat' := (Entails.of_eq (hX fun g => atPos EG g 0 ∅ 0)) $$ Hat
  ihave Hr' := (Entails.of_eq (hX fun g => reached EG g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq : (Pipeline.ownSems0 (Ix := Unit) (Name := ℕ) (U := UU) (Lvl := ℕ) (Val := Elt F) (τ := τ) osem c : sProp 𝕄)
    = iprop((bigSep Finset.univ fun k => semVal (sendCell k c) 0) ∗ bigSep Finset.univ fun k => semVal (recvCell k c) 0) := by
  unfold Pipeline.ownSems0; rw [bigSep_univ_sum]; rfl
theorem unscopedSems0_eq : (unscopedSems0 c : sProp 𝕄) = semVal (barCell c) 0 := by
  unfold unscopedSems0; rw [bigSep_eq_bigSepL_of_eq [SemLoc.reg barS] (by decide) (by decide)]; rfl

theorem sems_cells :
    iprop(Pipeline.ownSems0 (Ix := Unit) (Name := ℕ) (U := UU) (Lvl := ℕ) (Val := Elt F) (τ := τ) osem c ∗ unscopedSems0 c)
      ⊢ (bigSep Finset.univ fun x : Cell => semVal (kcell (c, x)) 0 : sProp 𝕄) := by
  rw [ownSems0_eq, unscopedSems0_eq, over_cells]
  iintro ⟨⟨HS, HV⟩, HB⟩
  isplitl [HB]; · iexact HB
  isplitl [HS]; · iexact HS
  iexact HV

theorem alloc_cells :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv EG (Rd m) κ (kcell (c, x))))
          ∗ (bigSep Finset.univ fun x => atPos EG (kcell (c, x)) 0 ∅ 0) ∗ (bigSep Finset.univ fun x => reached EG (kcell (c, x)) 0) ∗ toks c) := by
  have hall : iprop((bigSep Finset.univ fun x : Cell => semVal (kcell (c, x)) 0) ∗ bigSep Finset.univ fun x : Cell => roundState EG (Rd m) (kcell (c, x)) 0)
      ⊢ (|={Set.univ}=> bigSep Finset.univ fun x => iprop(∃ κ : ℕ, cellInv EG (Rd m) κ (kcell (c, x))) : sProp 𝕄) := by
    rw [← bigSep_sep']
    exact (bigSep_mono fun x _ => (Rounds.body_intro EG (Rd m) (kcell (c, x))).trans inv_alloc).trans (bigSep_fupd _ _)
  unfold G
  iintro ⟨Hos, Hus, Hst, Hrest⟩
  ihave Hv := (sems_cells (F := F) c) $$ [Hos Hus]
  · isplitl [Hos] <;> iassumption
  imod hall $$ [Hv Hst] with Hinv
  · isplitl [Hv] <;> iassumption
  imodintro
  isplitl [Hinv]; · iexact Hinv
  iexact Hrest

/-- The tokens as the devices pay with them. -/
theorem toks_around : (bigSep Finset.univ fun c : Dev nD => (toks c : sProp 𝕄))
    = bigSep Finset.univ fun c : Dev nD => iprop((bigSep Finset.univ fun i => dutyTok EG (barCell (sh i c)) 0 c)
    ∗ (bigSep Finset.univ fun k => dutyTok EG (sendCell k c) 0 d₀) ∗ (bigSep Finset.univ fun k => dutyTok EG (recvCell k (tgt k c)) 0 d₀)) := by
  unfold toks
  rw [bigSep_sep', bigSep_sep', bigSep_sep', bigSep_sep', around shift (fun c i => (dutyTok EG (barCell c) 0 (hs i c) : sProp 𝕄)),
    around ring (fun c k => (dutyTok EG (recvCell k c) 0 d₀ : sProp 𝕄))]
  simp only [shift, ring, Equiv.coe_fn_mk, hs_sh]

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro : iprop(records m K ∗ linear c) ⊢ (G' m c : sProp 𝕄) := by
  unfold G'; iintro H; iexists K; iexact H

theorem regroup :
    (bigSep Finset.univ fun c : Dev nD => iprop((bigSep Finset.univ fun x => iprop(∃ κ : ℕ, cellInv EG (Rd m) κ (kcell (c, x))))
          ∗ (bigSep Finset.univ fun x => atPos EG (kcell (c, x)) 0 ∅ 0) ∗ (bigSep Finset.univ fun x => reached EG (kcell (c, x)) 0) ∗ toks c) : sProp 𝕄)
      ⊢ bigSep Finset.univ (G' m) := by
  rw [bigSep_sep', bigSep_sep', bigSep_sep', ← bigSep_univ_prod (fun ck : Dev nD × Cell => iprop(∃ κ : ℕ, cellInv EG (Rd m) κ (kcell ck))),
    ← bigSep_univ_prod (fun ck : Dev nD × Cell => (reached EG (kcell ck) 0 : sProp 𝕄)), toks_around]
  have hl : iprop((bigSep Finset.univ fun c : Dev nD => bigSep Finset.univ fun x => atPos EG (kcell (c, x)) 0 ∅ 0)
      ∗ bigSep Finset.univ fun c : Dev nD => iprop((bigSep Finset.univ fun i => dutyTok EG (barCell (sh i c)) 0 c)
        ∗ (bigSep Finset.univ fun k => dutyTok EG (sendCell k c) 0 d₀) ∗ (bigSep Finset.univ fun k => dutyTok EG (recvCell k (tgt k c)) 0 d₀)))
      ⊢ (bigSep Finset.univ fun c => linear c : sProp 𝕄) := by rw [← bigSep_sep']; exact Entails.refl _
  iintro ⟨HI, Hat, #HR, Htok⟩
  ihave HK := (BI.bigSep_exists_pi Finset.univ (fun (ck : Dev nD × Cell) (κ : ℕ) => (cellInv EG (Rd m) κ (kcell ck) : sProp 𝕄))) $$ HI
  icases HK with ⟨%K, #HI⟩
  iapply (with_all (R := records m K) fun c _ => ghost_intro m K c)
  isplitr
  · unfold records; isplitl; · iexact HI
    iexact HR
  · iapply hl
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (regroup m))

/-! ## The credits at launch -/

theorem bar_eq_iff {a b : Dev nD} : barCell a = barCell b ↔ a = b :=
  ⟨fun h => congrArg (fun g : GSem nD τ sig => g.1.1) h, fun h => h ▸ rfl⟩
theorem recv_eq_iff {k k' : Fin 31} {a b : Dev nD} : recvCell k a = recvCell k' b ↔ k = k' ∧ a = b :=
  ⟨fun h => ⟨recv_inj (SemLoc.dma.inj (congrArg Prod.snd h)), congrArg (fun g : GSem nD τ sig => g.1.1) h⟩, fun h => by rw [h.1, h.2]⟩
theorem bar_ne_recv {k : Fin 31} {a b : Dev nD} : barCell a ≠ recvCell k b := fun h => nomatch congrArg Prod.snd h

theorem owed_bar (d : Dev nD) : O₀ d (barCell c) () = ∑ i : Fin 31, if c = sh i d then 1 else 0 := by
  unfold O₀ Os Ow
  rw [Pi.add_apply, Finsupp.add_apply, sum_tally_apply, sum_tally_apply, toSend_zero,
    Finset.sum_eq_zero (fun k _ => by rw [tallyAt_apply, if_neg fun h => bar_ne_recv h.1]), Nat.zero_add]
  exact Finset.sum_congr rfl fun i _ => by rw [tallyAt_apply]; simp only [bar_eq_iff, and_true]
theorem owed_recv (k : Fin 31) (d : Dev nD) : O₀ d (recvCell k c) () = ∑ k' : Fin 31, if k = k' ∧ c = tgt k' d then N else 0 := by
  unfold O₀ Os Ow
  rw [Pi.add_apply, Finsupp.add_apply, sum_tally_apply, sum_tally_apply, toSend_zero,
    Finset.sum_eq_zero (s := Finset.univ) (f := fun i => tallyAt (barCell (sh i d)) () 1 (recvCell k c) ()) (fun i _ => by rw [tallyAt_apply, if_neg fun h => bar_ne_recv h.1.symm]), Nat.add_zero]
  exact Finset.sum_congr rfl fun i _ => by rw [tallyAt_apply]; simp only [recv_eq_iff, and_true]

theorem launch_bar : tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm]
  have h (i : Fin 31) : (∑ d : Dev nD, if c = sh i d then 1 else 0) = 1 := by
    rw [show (∑ d : Dev nD, if c = sh i d then 1 else 0) = ∑ d : Dev nD, if c = d then 1 else 0 from
      Equiv.sum_comp (shift i) (fun d => if c = d then 1 else 0), Finset.sum_ite_eq, if_pos (Finset.mem_univ _)]
  rw [Finset.sum_congr rfl fun i _ => h i, Finset.sum_const, Finset.card_univ, Fintype.card_fin]; rfl

theorem launch_recv (k : Fin 31) : tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv c k d, Finset.sum_comm,
    Finset.sum_eq_single k (fun k' _ hk => Finset.sum_eq_zero fun d _ => if_neg fun h => hk h.1.symm) (fun h => absurd (Finset.mem_univ _) h)]
  simp only [true_and]
  rw [show (∑ d : Dev nD, if c = tgt k d then N else 0) = ∑ d : Dev nD, if c = d then N else 0 from
      Equiv.sum_comp (ring k) (fun d => if c = d then N else 0), Finset.sum_ite_eq, if_pos (Finset.mem_univ _)]

theorem creds : (Pipeline.launchCred O₀ c : sProp 𝕄)
    ⊢ iprop(cred (tallyAt (barCell c) () 31) ∗ bigSep Finset.univ fun k => cred (tallyAt (recvCell k c) () N)) := by
  unfold Pipeline.launchCred
  rw [bigSep_univ_at _ (SemLoc.reg barS), launch_bar]
  refine sep_mono_right ?_
  have hsub : (Finset.univ.image fun k : Fin 31 => (SemLoc.dma (recvS k) : SemLoc sig)) ⊆ Finset.univ.erase (SemLoc.reg barS) := by
    intro s hs
    obtain ⟨k, -, rfl⟩ := Finset.mem_image.mp hs
    exact Finset.mem_erase.mpr ⟨(fun h => nomatch h), Finset.mem_univ _⟩
  refine (bigSep_subset hsub).trans ?_
  rw [bigSep_image_of_injOn (fun k _ k' _ h => recv_inj (SemLoc.dma.inj h)), bigSep_congr fun k _ => congrArg cred (launch_recv c k)]
  exact Entails.refl _

/-! ## The run -/

def arg1Pts : sProp 𝕄 := ((c : Thread nD τ).loc main_arg1) ↦{fullShare} m ((c : Thread nD τ).loc main_arg1)

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ arg1Pts m c) := by
  have hr : Pipeline.unscopedRestP Pipeline.Prefetch.none cfg0.spec c (fun b => m ((c : Thread nD τ).loc b)) ⊢ (arg1Pts m c : sProp 𝕄) := by
    unfold Pipeline.unscopedRestP arg1Pts
    exact bigSep_elim (Φ := fun b : Ref sig .tc => (((c : Thread nD τ).loc b) ↦{fullShare} m ((c : Thread nD τ).loc b) : sProp 𝕄)) (by decide)
  iintro ⟨Hrest, Hlev, Hcr, -, HG⟩
  ihave Hrest := hr $$ Hrest
  ihave Hc := (creds (F := F) c) $$ Hcr
  icases Hc with ⟨H1, HN⟩
  imodintro
  unfold start
  isplitr [Hrest]
  · isplitl [HG]; · iexact HG
    isplitl [H1]; · iexact H1
    isplitl [HN]; · iexact HN
    iexact Hlev
  iexact Hrest

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists (GG m); iexact Hr

theorem waits : (levAts L lv : sProp 𝕄) ⊢ Pipeline.cellsWaits cfgs (dats m) () 0 c :=
  Pipeline.cellsWaits_intro cfgs (dats m) () 0 c fun w s t =>
    mayWait_stage c _ ((by decide : ∀ (w : Fin 4) (s : Fin (spec0 w).nbuf), ((spec0 w).sem s).val < 4) w s) _ (by
      rcases t with ⟨_ | _, ht⟩
      · exact Or.inl rfl
      · exact Or.inr rfl)

def finalA (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

theorem read_end (s' : Phys nD τ sig (Elt F)) :
    iprop(unscopedSems0 c ∗ arg1Pts m c ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ (SI s' : sProp 𝕄)) := by
  have hread := pointsTo_read_all (Ix := Unit) (Name := ℕ) (U := UU) (Lvl := ℕ) ({()} : Finset Unit) (fun _ => (c : Thread nD τ).loc main_arg1) (fun _ => m ((c : Thread nD τ).loc main_arg1)) s'
  rw [bigSep_singleton] at hread
  iintro ⟨Hu, Hz, HSI⟩
  ihave H := hread $$ [Hz HSI]
  · isplitl [Hz]; · unfold arg1Pts; iexact Hz
    iexact HSI
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h1 () (Finset.mem_singleton_self _)⟩
  iexact HSI

set_option maxRecDepth 16384 in
/-- From any memory with zero counters, for any float values: every weakly fair execution of the program terminates, with every
    result array at its computed contents, the arguments unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c w => share_eq m c w)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := arg1Pts m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end m c s')
    (hQ := fun _ h hs => ⟨fun c => ⟨fun w => (h c).1 w, (h c).2.2.2⟩, sem_eq_zero hs fun c => (h c).2.2.1⟩)

/-- Its frame, and its results. -/
theorem run_out : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = finalA m c (3 : Fin 4))
    ∧ r.2.sem = fun _ => 0) :=
  (θ_run defs _ _).mono (fun r h => ⟨fun c => by
    obtain ⟨hw, h1⟩ := h.1 c
    exact ⟨(hw (0 : Fin 4)).trans ((dats m 0 c).arrAt_in (0 : Fin 4) rfl _), h1, (hw (1 : Fin 4)).trans ((dats m 0 c).arrAt_in (1 : Fin 4) rfl _),
      (hw (2 : Fin 4)).trans ((dats m 0 c).arrAt_in (2 : Fin 4) rfl _), hw (3 : Fin 4)⟩, h.2⟩) (run_main m ρ)

end Cert.Moe

end
-- ==== Proof.Frames.lean ====
/-
# The three frames

The kernel's program is the same text at both instances of the floats, so one run of it serves both.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 20000

noncomputable section

namespace Cert.Moe

open Idealize.ShloMosaic Idealize.SL.Sem

section
open Cert.KernelIdeal

/-- The run leaves every argument and the semaphores as they were, at every instance of the floats. -/
theorem args_held (F : FTy → Type) [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (run_out (F := F) m ρ)

end

/-- The two programs have the same kernel bodies … -/
theorem bodies_eq : Cert.Kernel.defs₀ (F := Bits) = Cert.KernelIdeal.defs₀ (F := Bits) := by
  refine congrArg (Defs.onTc (nD := Cert.Kernel.nD) (τ := Cert.Kernel.τ) (sig := Cert.Kernel.sig) (Λ := Cert.Kernel.Λ₀) (Val := Elt Bits))
    (funext fun l => funext fun a => ?_)
  obtain ⟨_ | n, h⟩ := l
  · rfl
  · exact absurd h (by omega)

/-- … and so the same bodies in all. -/
theorem defs_eq : Cert.Kernel.defs (F := Bits) = Cert.KernelIdeal.defs (F := Bits) :=
  congrArg (Pipeline.defs Cert.Kernel.pcfgs) bodies_eq

theorem frame_kernel : Cert.quiescent_Kernel := fun m ρ _ => by
  rw [defs_eq]
  exact args_held Bits m ρ

theorem frame_ideal : Cert.quiescent_KernelIdeal := fun m ρ _ => args_held Ideal m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Count.lean ====
/-
# Counting the tokens of an expert

`rank s e i` counts the tokens up to and including `i` that chose `e`. A running sum taken by doubling the window is the whole
running sum, and of a sequence of zeros and ones it is such a count.
-/
module

public import Mathlib.Data.EReal.Basic
public import Mathlib.Data.EReal.Operations
public import Mathlib.Algebra.BigOperators.Intervals
public import Mathlib.Algebra.BigOperators.Fin
public import Mathlib.Logic.Equiv.Fin.Basic

@[expose] public section

noncomputable section

namespace Cert.Moe

/-! ## The doubled window -/

section
variable {M : Type*} [AddCommMonoid M]

/-- The sum of the last `n` terms of `f` up to the `i`-th, as many as there are. -/
def win (f : ℕ → M) (n i : ℕ) : M := ∑ j ∈ Finset.range n, if j ≤ i then f (i - j) else 0

theorem win_one (f : ℕ → M) (i : ℕ) : win f 1 i = f i := by simp [win]

theorem win_double (f : ℕ → M) (n i : ℕ) : win f (n + n) i = win f n i + if i < n then 0 else win f n (i - n) := by
  unfold win
  rw [Finset.sum_range_add]
  congr 1
  split_ifs with h
  · exact Finset.sum_eq_zero fun j _ => if_neg (by omega)
  · refine Finset.sum_congr rfl fun j _ => ?_
    by_cases hj : n + j ≤ i
    · rw [if_pos hj, if_pos (by omega), Nat.sub_add_eq]
    · rw [if_neg hj, if_neg (by omega)]

theorem win_all (f : ℕ → M) (n i : ℕ) (h : i < n) : win f n i = ∑ t ∈ Finset.range (i + 1), f t := by
  unfold win
  rw [← Finset.sum_subset (Finset.range_subset_range.2 (show i + 1 ≤ n from h))
    (fun j _ hj => if_neg fun hl => hj (Finset.mem_range.2 (by omega)))]
  rw [← Finset.sum_range_reflect]
  refine Finset.sum_congr rfl fun j hj => ?_
  have := Finset.mem_range.1 hj
  rw [if_pos (by omega)]
  congr 1
  omega

end

/-! ## Ranks -/

section
variable {E : Type*} [DecidableEq E] {n : ℕ}

/-- How many tokens up to and including `i` chose `e`. -/
def rank (s : Fin n → E) (e : E) (i : Fin n) : ℕ := (Finset.univ.filter fun t : Fin n => t ≤ i ∧ s t = e).card

/-- How many tokens before `i` chose what `i` chose. -/
def before (s : Fin n → E) (i : Fin n) : ℕ := (Finset.univ.filter fun t : Fin n => s i = s t ∧ t < i).card

theorem rank_self (s : Fin n → E) (i : Fin n) : rank s (s i) i = before s i + 1 := by
  unfold rank before
  rw [← Finset.card_insert_of_notMem (a := i) (s := Finset.univ.filter fun t : Fin n => s i = s t ∧ t < i) (by simp)]
  congr 1
  ext t
  simp only [Finset.mem_filter, Finset.mem_univ, true_and, Finset.mem_insert]
  constructor
  · rintro ⟨h1, h2⟩
    rcases h1.lt_or_eq with h | h
    · exact .inr ⟨h2.symm, h⟩
    · exact .inl h
  · rintro (rfl | ⟨h1, h2⟩)
    · exact ⟨le_rfl, rfl⟩
    · exact ⟨h2.le, h1.symm⟩

theorem rank_lt (s : Fin n → E) (e : E) {i t : Fin n} (h : i < t) (ht : s t = e) : rank s e i < rank s e t := by
  refine Finset.card_lt_card (Finset.ssubset_iff_of_subset ?_ |>.2 ⟨t, ?_, ?_⟩)
  · intro u hu
    simp only [Finset.mem_filter, Finset.mem_univ, true_and] at hu ⊢
    exact ⟨hu.1.trans h.le, hu.2⟩
  · simp [ht]
  · simp [h]

/-- Two tokens of one expert with one rank are the same. -/
theorem rank_inj (s : Fin n → E) (e : E) {i t : Fin n} (hi : s i = e) (ht : s t = e) (h : rank s e i = rank s e t) : i = t := by
  rcases lt_trichotomy i t with hl | hl | hl
  · exact absurd h (rank_lt s e hl ht).ne
  · exact hl
  · exact absurd h (rank_lt s e hl hi).ne'

/-- The running sum of the zeros and ones that say who chose `e` is the rank. -/
theorem win_rank (s : Fin n → E) (e : E) (i : Fin n) (f : ℕ → EReal) (hf : ∀ t : Fin n, f t = if s t = e then 1 else 0) :
    win f n i = (rank s e i : EReal) := by
  rw [win_all f n i i.isLt]
  have h1 : ∑ t ∈ Finset.range (i.val + 1), f t = ∑ t ∈ Finset.range n, if t ≤ i.val then f t else 0 := by
    rw [← Finset.sum_filter]
    refine Finset.sum_congr ?_ fun _ _ => rfl
    ext t
    simp only [Finset.mem_range, Finset.mem_filter]
    have := i.isLt
    omega
  rw [h1, Finset.sum_range]
  unfold rank
  rw [← Finset.sum_boole]
  refine Finset.sum_congr rfl fun t _ => ?_
  rw [hf]
  by_cases h : t ≤ i
  · rw [if_pos (show t.val ≤ i.val from h)]; simp [h]
  · rw [if_neg (show ¬ t.val ≤ i.val from h)]; simp [h]

end

end Cert.Moe

end
-- ==== Proof.Cumsum.lean ====
/-
# The running sums

One step of a running sum adds to an array itself moved down by some rows, zeros moving in. After the steps by 1, 2, 4, … 1024 rows
every entry is the sum of its column down to its row.
-/
module

public import proofs.«01_k».proof.Proof.Count
public import proofs.«01_k».proof.Proof.Gen.KernelIdeal.Skeleton
public import Idealize.ShloMosaic.Lib.Pointwise

@[expose] public section

noncomputable section

namespace Cert.Moe

open Idealize.ShloMosaic
open Cert.KernelIdeal Cert.KernelIdeal.Gen

/-- Column `j` of an array of 2048 rows, zero past its end. -/
def col {N : ℕ} {φ : FTy} (v : FVec Ideal ⟨2, ![2048, N]⟩ φ) (j : Fin N) (t : ℕ) : EReal :=
  if h : t < 2048 then v (ix2 ⟨t, h⟩ j) else 0

/-- Every entry of `v` is the sum of the last `n` entries of its column in `u`. -/
def Sums {N : ℕ} {φ : FTy} (u : FVec Ideal ⟨2, ![2048, N]⟩ φ) (n : ℕ) (v : FVec Ideal ⟨2, ![2048, N]⟩ φ) : Prop :=
  ∀ (i : Fin 2048) (j : Fin N), v (ix2 i j) = win (col u j) n i

section
variable {N : ℕ} {φ : FTy} {u v : FVec Ideal ⟨2, ![2048, N]⟩ φ}

theorem Sums.one (u : FVec Ideal ⟨2, ![2048, N]⟩ φ) : Sums u 1 u := fun i j => by
  rw [win_one, col, dif_pos i.isLt]

theorem Sums.double {a b : ℕ} {z : FVec Ideal ⟨2, ![a, N]⟩ φ} {hs : (⟨2, ![2048, N]⟩ : Shape).Slices ![0, 0] ⟨2, ![b, N]⟩}
    {hc : Shape.Concatenates [⟨2, ![a, N]⟩, ⟨2, ![b, N]⟩] ⟨2, ![2048, N]⟩ 0} (h : Sums u a v) (hz : ∀ i, z i = 0) :
    Sums u (a + a) (addf v (concatenate ⟨2, ![2048, N]⟩ 0 [⟨⟨2, ![a, N]⟩, z⟩, ⟨⟨2, ![b, N]⟩, extractStridedSlice ⟨2, ![b, N]⟩ ![0, 0] v hs⟩] hc)) := by
  intro i j
  rw [win_double, ← h i j]
  pointwise [hz]
  congr 1
  split_ifs with hl
  · rfl
  · refine Eq.trans (congrArg v ?_) (h ⟨i - a, by omega⟩ j)
    funext d
    match d with
    | ⟨0, _⟩ => exact Fin.ext (Nat.zero_add _)
    | ⟨1, _⟩ => exact Fin.ext (Nat.zero_add _)

/-- All eleven steps: the entry is the rank of its token, if the array says with ones and zeros who chose what. -/
theorem Sums.rank {E : Type*} [DecidableEq E] (s : Fin 2048 → E) (e : Fin N → E) (hu : ∀ i j, u (ix2 i j) = if s i = e j then 1 else 0)
    (h : Sums u 2048 v) (i : Fin 2048) (j : Fin N) : v (ix2 i j) = (Cert.Moe.rank s (e j) i : EReal) := by
  rw [h i j]
  refine win_rank s (e j) i _ fun t => ?_
  rw [col, dif_pos t.isLt]
  exact hu t j

end

/-- The running sum over the tokens, of the choices among a device's own experts. -/
theorem sums_own (v2 : BitVec 32) (r : Vec Ideal S2048x1 .i32) :
    Sums (k0_pay2 v2 r) 2048 (k0_pay5 (k0_pay3 v2 r) (k0_pay4 (F := Ideal))) := by
  have hz {s : Shape} (i : s.Idx) : broadcast s (Scalar.ofBits (F := Ideal) .f32 0x00000000#32) i = 0 := Ideal.ofBits_zero_f32
  have h16 : Sums (k0_pay2 v2 r) 16 (k0_pay3 v2 r) :=
    ((((Sums.one (k0_pay2 v2 r)).double hz).double hz).double hz).double hz
  exact ((((((h16.double hz).double hz).double hz).double hz).double hz).double hz).double hz

/-- The running sum over the tokens, of the choices among all experts. -/
theorem sums_all (v394 : IVec S1x128 32) (v395 : IVec S2048x128 32) :
    Sums (k0_pay15 (F := Ideal) v394 v395) 2048 (k0_pay16 (F := Ideal) v394 v395) := by
  have hz {s : Shape} (i : s.Idx) : broadcast s (Scalar.ofBits (F := Ideal) .bf16 0x0000#16) i = 0 := Ideal.ofBits_zero_bf16
  exact (((((((((((Sums.one (k0_pay15 (F := Ideal) v394 v395)).double hz).double hz).double hz).double hz).double hz).double hz).double hz).double hz).double hz).double hz).double hz

end Cert.Moe

end
-- ==== Proof.Block.lean ====
/-
# What a device stores for one of its experts

The first tokens that chose the expert, at most twelve of them and in order, times the expert's matrix.
-/
module

public import proofs.«01_k».proof.Proof.Cumsum
public import proofs.«01_k».proof.Proof.Sched

@[expose] public section

noncomputable section

namespace Cert.Moe

open Idealize.ShloMosaic
open Cert.KernelIdeal Cert.KernelIdeal.Gen

/-- What every token chose. -/
def tok (r : Vec Ideal S2048x1 .i32) (i : Fin 2048) : BitVec 32 := r (ix2 i 0)

/-- A truth value read as a number. -/
theorem one_of_bit (p : Prop) [Decidable p] (b : BitVec 1) (h : b = 1#1 ↔ p) :
    FloatOps.sitofp (F := Ideal) .f32 (b.setWidth 32) = if p then (1 : EReal) else 0 := by
  by_cases hp : p
  · rw [if_pos hp, h.2 hp]
    show (((1#1).setWidth 32).toInt : ℝ) = (1 : EReal)
    rw [show ((1#1).setWidth 32).toInt = 1 from rfl]; simp
  · rw [if_neg hp, ValueIdx.eq_zero_of_ne_one (fun e => hp (h.1 e))]
    show (((0#1).setWidth 32).toInt : ℝ) = (0 : EReal)
    rw [show ((0#1).setWidth 32).toInt = 0 from rfl]; simp

theorem one_of_eq (x y : BitVec 32) :
    FloatOps.sitofp (F := Ideal) .f32 ((IntOp.cmpi .eq x y).setWidth 32) = if x = y then (1 : EReal) else 0 :=
  one_of_bit _ _ (by simp only [IntOp.cmpi]; by_cases h : x = y <;> simp [h, beq_eq_decide])

theorem one_of_oeq (x y : EReal) :
    FloatOps.sitofp (F := Ideal) .f32 ((BitVec.ofBool (decide (x = y))).setWidth 32) = if x = y then (1 : EReal) else 0 :=
  one_of_bit _ _ (by by_cases h : x = y <;> simp [h])

theorem own_apply (v2 : BitVec 32) (r : Vec Ideal S2048x1 .i32) (i : Fin 2048) (l : Fin 4) :
    k0_pay2 v2 r (ix2 i l) = if tok r i = v2 * 4#32 + BitVec.ofNat 32 l then 1 else 0 := by
  unfold k0_pay2 k0_pay1
  pointwise
  exact one_of_eq _ _

theorem all_apply (r : Vec Ideal S2048x1 .i32) (i : Fin 2048) (e : Fin 128) :
    k0_pay15 (F := Ideal) (iota .tc S1x128 32 [1] iota_S1x128_d1_w32) (k0_pay14 (k0_pay1 r)) (ix2 i e) = if tok r i = BitVec.ofNat 32 e then 1 else 0 := by
  unfold k0_pay15 k0_pay14 k0_pay1
  pointwise
  exact one_of_eq _ _

/-- The ranks that a device's rows stand for. -/
theorem rank_apply (r : Fin 12) : k0_pay7 (F := Ideal) (ix2 0 r) = ((r.val + 1 : ℕ) : EReal) := by
  unfold k0_pay7
  pointwise
  have h : (IntOp.addi (BitVec.ofNat 32 r.val) 1#32).toInt = ((r.val + 1 : ℕ) : ℤ) := by
    revert r; decide
  show (((IntOp.addi (BitVec.ofNat 32 r.val) 1#32).toInt : ℝ) : EReal) = _
  rw [h]
  simp

/-- The expert that device `c` calls its `l`-th. -/
theorem expert_word : ∀ (c : Fin 32) (l : Fin 4), v2 c * 4#32 + BitVec.ofNat 32 l = BitVec.ofNat 32 (4 * c.val + l.val) := by decide

section
variable (m : (ℓ : Loc nD τ sig) → Buf (Elt Ideal) ℓ) (c : Dev nD)

/-- The rows stored for expert `l`, at an index, as the kernel sums them. -/
theorem blk_sum (l : Fin 4) (r : Fin 12) (j : Fin 1024) :
    blk m c l (ix4 0 0 r j) = ∑ k : Fin 512,
      (∑ i : Fin 2048, k0_pay2 (v2 c) (rst m c) (ix2 i l)
        * (if k0_pay5 (k0_pay3 (v2 c) (rst m c)) (k0_pay4 (F := Ideal)) (ix2 i l) = k0_pay7 (F := Ideal) (ix2 0 r) then 1 else 0)
        * xst m c (ix2 i k)) * wl m c l (ix3 0 k j) := by
  match l with
  | ⟨0, _⟩ | ⟨1, _⟩ | ⟨2, _⟩ | ⟨3, _⟩ =>
    unfold blk
    pointwise [k0_pay8, k0_pay9, k0_pay10, k0_pay11, k0_pay12, k0_pay13, k0_pay6, dot_S2048x12_S2048x512_S12x512_0_0_1_1_n_n, dot_S12x512_S512x1024_S12x1024_1_0_0_1_n_n, one_of_oeq]

/-- The same sum over the tokens of the expert that have the row's rank. -/
theorem blk_apply (l : Fin 4) (r : Fin 12) (j : Fin 1024) :
    blk m c l (ix4 0 0 r j) = ∑ k : Fin 512,
      (∑ i : Fin 2048, (if tok (rst m c) i = BitVec.ofNat 32 (4 * c.val + l.val)
          ∧ rank (tok (rst m c)) (BitVec.ofNat 32 (4 * c.val + l.val)) i = r.val + 1 then 1 else 0)
        * xst m c (ix2 i k)) * wl m c l (ix3 0 k j) := by
  have hu (i : Fin 2048) (l : Fin 4) : k0_pay2 (v2 c) (rst m c) (ix2 i l) = if tok (rst m c) i = BitVec.ofNat 32 (4 * c.val + l.val) then 1 else 0 := by
    rw [own_apply, ← expert_word c l]
  rw [blk_sum]
  refine Finset.sum_congr rfl fun k _ => ?_
  congr 1
  refine Finset.sum_congr rfl fun i _ => ?_
  congr 1
  rw [(sums_own (v2 c) (rst m c)).rank (tok (rst m c)) (fun l => BitVec.ofNat 32 (4 * c.val + l.val)) hu i l, rank_apply, hu i l]
  simp only [Nat.cast_inj, ite_and, ite_mul, one_mul, zero_mul]

/-- Row `r` of the block, for the token `i` of rank `r + 1`: that token's row of the product. -/
theorem blk_row (l : Fin 4) (r : Fin 12) (j : Fin 1024) (i : Fin 2048) (hi : tok (rst m c) i = BitVec.ofNat 32 (4 * c.val + l.val))
    (hr : rank (tok (rst m c)) (BitVec.ofNat 32 (4 * c.val + l.val)) i = r.val + 1) :
    blk m c l (ix4 0 0 r j) = ∑ k : Fin 512, xst m c (ix2 i k) * wl m c l (ix3 0 k j) := by
  rw [blk_apply]
  refine Finset.sum_congr rfl fun k _ => ?_
  congr 1
  rw [Finset.sum_eq_single i]
  · rw [if_pos ⟨hi, hr⟩, one_mul]
  · intro t _ ht
    rw [if_neg, zero_mul]
    rintro ⟨h1, h2⟩
    exact ht (rank_inj _ _ h1 hi (h2.trans hr.symm))
  · exact fun h => absurd (Finset.mem_univ _) h

end

end Cert.Moe

end
-- ==== Proof.Gathered.lean ====
/-
# The result from the gather buffer

Every token's row of the result is the product of its row of ones and zeros with the rows of the gather buffer: at most one of them
is picked, the one that the token's own expert stored for the token's rank.
-/
module

public import proofs.«01_k».proof.Proof.Block
public import proofs.«01_k».proof.Proof.Mid

@[expose] public section

noncomputable section

namespace Cert.Moe

open Idealize.ShloMosaic
open Cert.KernelIdeal Cert.KernelIdeal.Gen

/-- The words of the numbers from one to twelve. -/
def numWord : Fin 12 → BitVec 16 :=
  ![0x3F80#16, 0x4000#16, 0x4040#16, 0x4080#16, 0x40A0#16, 0x40C0#16, 0x40E0#16, 0x4100#16, 0x4110#16, 0x4120#16, 0x4130#16, 0x4140#16]

theorem num_word (n : Fin 12) : Ideal.ofBits .bf16 (numWord n) = ((n.val + 1 : ℕ) : EReal) := by
  rw [show ((n.val + 1 : ℕ) : EReal) = (((n.val + 1 : ℕ) : ℝ) : EReal) by simp]
  fin_cases n <;> simp [numWord, Ideal.ofBits, Ideal.ieee, -EReal.coe_mul] <;> norm_num

/-- Where the array holds the number `n + 1`. -/
def ofRank (v : FVec Ideal S2048x128 .bf16) (n : Fin 12) : FVec Ideal S2048x128 .bf16 :=
  truncf .bf16 (sitofp .f32 (extui 32 (cmpf .oeq v (broadcast S2048x128 (Scalar.ofBits .bf16 (numWord n)))) natLt_1_32)) bitsLt_bf16_f32

theorem ofRank_apply (v : FVec Ideal S2048x128 .bf16) (n : Fin 12) (i : Fin 2048) (e : Fin 128) :
    ofRank v n (ix2 i e) = if v (ix2 i e) = ((n.val + 1 : ℕ) : EReal) then 1 else 0 := by
  unfold ofRank
  pointwise [one_of_oeq, num_word]

/-- The device that holds expert `e`, and which of its experts it is. -/
def devOf (e : Fin 128) : Dev nD := (⟨e.val / 4, by omega⟩ : Fin 32)
def locOf (e : Fin 128) : Fin 4 := ⟨e.val % 4, by omega⟩

theorem pick_eq (r : Vec Ideal S2048x1 .i32) (hc) :
    pick r = concatenate S2048x1536 1 (List.ofFn fun n : Fin 12 => (⟨S2048x128, ofRank (v445 r) n⟩ : (s : Shape) × (s.Idx → EReal))) hc := rfl

/-- The place of expert `e`'s row `n` among all rows. -/
def colAt (n : Fin 12) (e : Fin 128) : Fin 1536 := ⟨128 * n.val + e.val, by omega⟩

theorem ranks_apply (r : Vec Ideal S2048x1 .i32) (i : Fin 2048) (e : Fin 128) :
    v445 r (ix2 i e) = (rank (tok r) (BitVec.ofNat 32 e) i : EReal) * if tok r i = BitVec.ofNat 32 e then 1 else 0 := by
  unfold v445 k0_pay17 v395
  pointwise
  rw [all_apply, (sums_all _ _).rank (tok r) (fun e : Fin 128 => BitVec.ofNat 32 e) (all_apply r) i e]

/-- The picking matrix: a one where the column is the row of the token's expert for the token's rank. -/
theorem pick_apply (r : Vec Ideal S2048x1 .i32) (i : Fin 2048) (n : Fin 12) (e : Fin 128) :
    pick r (ix2 i (colAt n e)) = if tok r i = BitVec.ofNat 32 e ∧ rank (tok r) (BitVec.ofNat 32 e) i = n.val + 1 then 1 else 0 := by
  rw [pick_eq r concatenates_S2048x128_S2048x128_S2048x128_S2048x128_S2048x128_S2048x128_S2048x128_S2048x128_S2048x128_S2048x128_S2048x128_S2048x128_S2048x1536_d1]
  refine (concatenate_ofFn_apply (t := S2048x1536) (s₁ := S2048x128) (1 : Fin 2) (fun n : Fin 12 => ofRank (v445 r) n) _ rfl 128 rfl (ix2 i (colAt n e)) n
    (show (128 * n.val + e.val) / 128 = n.val by omega) (ix2 i e) (show e.val = (128 * n.val + e.val) % 128 by omega)
    (fun b hb => by match b with | ⟨0, _⟩ => rfl | ⟨1, _⟩ => exact absurd rfl hb)).trans ?_
  rw [ofRank_apply, ranks_apply]
  congr 1
  by_cases h : tok r i = BitVec.ofNat 32 e
  · simp only [h, if_true, mul_one, true_and, Nat.cast_inj]
  · simp only [h, if_false, mul_zero, false_and, eq_iff_iff, iff_false]
    exact_mod_cast (Nat.succ_ne_zero n.val).symm

section
variable (m : (ℓ : Loc nD τ sig) → Buf (Elt Ideal) ℓ) (c : Dev nD)

theorem GG_at (I : S32x4x12x1024.Idx) (d : Dev nD) (l : Fin 4) (n : Fin 12) (j : Fin 1024) (h0 : (I 0).val = d.val) (h1 : (I 1).val = l.val)
    (h2 : (I 2).val = n.val) (h3 : (I 3).val = j.val) : GG m I = blk m d l (ix4 0 0 n j) := by
  have e0 : (⟨(I 0).val, (I 0).isLt⟩ : Dev nD) = d := Fin.ext h0
  have e1 : (⟨(I 1).val, (I 1).isLt⟩ : Fin 4) = l := Fin.ext h1
  have e2 : rowIdx I = ix4 0 0 n j := by
    funext a
    match a with
    | ⟨0, _⟩ => rfl
    | ⟨1, _⟩ => rfl
    | ⟨2, _⟩ => exact Fin.ext h2
    | ⟨3, _⟩ => exact Fin.ext h3
  unfold GG
  rw [e0, e1, e2]

theorem gat_apply (n : Fin 12) (e : Fin 128) (j : Fin 1024) :
    k0_pay28 (gat m n) (ix2 e j) = blk m (devOf e) (locOf e) (ix4 0 0 n j) := by
  unfold k0_pay28
  pointwise
  unfold gat
  rw [View.readAt_apply]
  refine GG_at m _ (devOf e) (locOf e) n j ?_ ?_ ?_ ?_
  · show 0 + 1 * (e.val / 4) = e.val / 4; omega
  · show 0 + 1 * (e.val % 4) = e.val % 4; omega
  · show n.val + 1 * 0 = n.val; omega
  · show 0 + 1 * j.val = j.val; omega

/-- All rows of the gather buffer, by rank and expert. -/
def allRows : FVec Ideal S1536x1024 .bf16 :=
  concatenate S1536x1024 0 (List.ofFn fun n : Fin 12 => (⟨S128x1024, k0_pay28 (gat m n)⟩ : (s : Shape) × (s.Idx → EReal)))
    concatenates_S128x1024_S128x1024_S128x1024_S128x1024_S128x1024_S128x1024_S128x1024_S128x1024_S128x1024_S128x1024_S128x1024_S128x1024_S1536x1024_d0

theorem allRows_apply (n : Fin 12) (e : Fin 128) (j : Fin 1024) : allRows m (ix2 (colAt n e) j) = k0_pay28 (gat m n) (ix2 e j) := by
  unfold allRows
  exact concatenate_ofFn_apply (t := S1536x1024) (s₁ := S128x1024) (0 : Fin 2) (fun n : Fin 12 => k0_pay28 (gat m n)) _ rfl 128 rfl (ix2 (colAt n e) j) n
    (show (128 * n.val + e.val) / 128 = n.val by omega) (ix2 e j) (show e.val = (128 * n.val + e.val) % 128 by omega)
    (fun b hb => by match b with | ⟨0, _⟩ => exact absurd rfl hb | ⟨1, _⟩ => rfl)

theorem out_eq : outAt m c = matmul dot_S2048x1536_S1536x1024_S2048x1024_1_0_0_1_n_n none (pick (rst m c)) (allRows m)
    (constant S2048x1024 .f32 0x00000000#32) := rfl

theorem sum_cols (f : Fin 1536 → EReal) : ∑ q : Fin 1536, f q = ∑ n : Fin 12, ∑ e : Fin 128, f (colAt n e) := by
  rw [← Fintype.sum_prod_type']
  refine (Fintype.sum_equiv (finProdFinEquiv (m := 12) (n := 128)) _ f fun p => ?_).symm
  congr 1
  exact Fin.ext (Nat.add_comm _ _)

theorem out_sum (i : Fin 2048) (j : Fin 1024) : outAt m c (ix2 i j) = ∑ n : Fin 12, ∑ e : Fin 128,
    pick (rst m c) (ix2 i (colAt n e)) * k0_pay28 (gat m n) (ix2 e j) := by
  rw [out_eq]
  pointwise [dot_S2048x1536_S1536x1024_S2048x1024_1_0_0_1_n_n]
  rw [sum_cols]
  simp only [allRows_apply]

/-- The result: a token's row is its input row times its expert's weights if fewer than twelve earlier tokens chose that expert. -/
theorem out_apply (hr : ∀ d : Dev nD, rst m d = rst m c) (hx : ∀ d : Dev nD, xst m d = xst m c) (i : Fin 2048) (j : Fin 1024) :
    outAt m c (ix2 i j) = ∑ e : Fin 128, if tok (rst m c) i = BitVec.ofNat 32 e ∧ before (tok (rst m c)) i < 12 then
      ∑ k : Fin 512, xst m c (ix2 i k) * wl m (devOf e) (locOf e) (ix3 0 k j) else 0 := by
  rw [out_sum, Finset.sum_comm]
  refine Finset.sum_congr rfl fun e _ => ?_
  simp only [pick_apply, gat_apply]
  have he : 4 * (devOf e).val + (locOf e).val = e.val := Nat.div_add_mod e.val 4
  by_cases h : tok (rst m c) i = BitVec.ofNat 32 e
  · have hk : rank (tok (rst m c)) (BitVec.ofNat 32 e) i = before (tok (rst m c)) i + 1 := h ▸ rank_self (tok (rst m c)) i
    rw [hk]
    by_cases hb : before (tok (rst m c)) i < 12
    · rw [if_pos ⟨h, hb⟩, Finset.sum_eq_single (⟨before (tok (rst m c)) i, hb⟩ : Fin 12)]
      · rw [if_pos ⟨h, rfl⟩, one_mul, blk_row m (devOf e) (locOf e) ⟨_, hb⟩ j i (by rw [hr, he]; exact h) (by rw [hr, he]; exact hk), hx]
      · intro n _ hn
        rw [if_neg fun hh => hn (Fin.ext (Nat.succ.inj hh.2).symm), zero_mul]
      · exact fun hh => absurd (Finset.mem_univ _) hh
    · rw [if_neg fun hh => hb hh.2]
      refine Finset.sum_eq_zero fun n _ => ?_
      rw [if_neg fun hh : _ ∧ before (tok (rst m c)) i + 1 = n.val + 1 => hb (by have := hh.2; omega), zero_mul]
  · rw [if_neg fun hh => h hh.1]
    refine Finset.sum_eq_zero fun n _ => ?_
    rw [if_neg fun hh => h hh.1, zero_mul]

end

end Cert.Moe

end
-- ==== Proof.Want.lean ====
/-
# What the reference computes

A token's row is the sum over the experts of its input row times the expert's weights, kept only for the expert the token chose and only
if fewer than twelve earlier tokens chose that expert.
-/
module

public import proofs.«01_k».proof.Proof.Count
public import proofs.«01_k».proof.Proof.Gen.ReferenceIdeal.Run
public import Idealize.ShloMosaic.Lib.Pointwise
public import Idealize.ShloMosaic.Lib.WordCmp

@[expose] public section

noncomputable section

namespace Cert.Moe.Want

open Idealize.ShloMosaic Idealize.ShloMosaic.WordCmp
open Cert.ReferenceIdeal Cert.ReferenceIdeal.Gen

variable (x : FVec Ideal S2048x512 .f32) (r : IVec S2048x1 32) (W : FVec Ideal S128x512x1024 .f32)

/-- The pairs of tokens of one expert, the second before the first. -/
def earlier : IVec S2048x2048 1 :=
  andi (cmpi .eq (broadcastInDim S2048x2048 ![0, 1] bcast_S2048x1_S2048x2048_0_1 r)
      (broadcastInDim S2048x2048 ![0, 1] bcast_S1x2048_S2048x2048_0_1 (shapeCast _ r shapeCasts_S2048x1_S1x2048)))
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- How many earlier tokens chose a token's expert. -/
def count : FVec Ideal S2048 .f32 :=
  Host.reduceAdd (id (select (earlier r) (broadcastInDim S2048x2048 ![] bcast_S_S2048x2048 (constant S_ .f32 0x3F800000#32))
    (broadcastInDim S2048x2048 ![] bcast_S_S2048x2048 (constant S_ .f32 0x00000000#32)))) (constant S_ .f32 0x00000000#32) reducesTo_S2048x2048_S2048_d1 h_S_

/-- Which expert takes which token. -/
def taken : IVec S2048x128 1 :=
  andi (cmpi .eq (broadcastInDim S2048x128 ![0, 1] bcast_S2048x1_S2048x128_0_1 r)
      (broadcastInDim S2048x128 ![0, 1] bcast_S1x128_S2048x128_0_1 (broadcastInDim S1x128 ![1] bcast_S128_S1x128_1 (iotaInDim S128 32 0))))
    (broadcastInDim S2048x128 ![0, 1] bcast_S2048x1_S2048x128_0_1 (broadcastInDim S2048x1 ![0] bcast_S2048_S2048x1_0
      (cmpf .olt (count r) (broadcastInDim S2048 ![] bcast_S_S2048 (constant S_ .f32 0x41400000#32)))))

/-- The result. -/
def out : FVec Ideal S2048x1024 .f32 :=
  Host.reduceAdd (select (broadcastInDim S2048x128x1024 ![0, 1, 2] bcast_S2048x128x1_S2048x128x1024_0_1_2
      (broadcastInDim S2048x128x1 ![0, 1] bcast_S2048x128_S2048x128x1_0_1 (taken r)))
    (Host.dotGeneral dot_S2048x512_S128x512x1024_S2048x128x1024_1_1_0_02_n_n none x W)
    (broadcastInDim S2048x128x1024 ![] bcast_S_S2048x128x1024 (id (constant S_ .f32 0x00000000#32)))) (constant S_ .f32 0x00000000#32)
    reducesTo_S2048x128x1024_S2048x1024_d1 h_S_

theorem earlier_apply (i t : Fin 2048) :
    earlier r (ix2 i t) = BitVec.ofBool (decide (r (ix2 i 0) = r (ix2 t 0) ∧ t < i)) := by
  unfold earlier
  pointwise
  rw [cmpi_eq_eq, cmpi_slt_ofNat (by have := t.isLt; omega) (by have := i.isLt; omega), andi_ofBool, ← Bool.decide_and]
  rfl

theorem count_apply (i : Fin 2048) : count r (ix1 i) = (before (fun t : Fin 2048 => r (ix2 t 0)) i : EReal) := by
  unfold count
  pointwise
  have hs (t : Fin 2048) : id (α := FVec Ideal S2048x2048 .f32) (select (earlier r) (broadcastInDim S2048x2048 ![] bcast_S_S2048x2048 (constant S_ FTy.f32 0x3F800000#32))
      (broadcastInDim S2048x2048 ![] bcast_S_S2048x2048 (constant S_ FTy.f32 0x00000000#32))) (ix2 i t)
      = if r (ix2 i 0) = r (ix2 t 0) ∧ t < i then (1 : EReal) else 0 := by
    rw [id_eq]
    pointwise [earlier_apply]
  simp only [hs]
  rw [Finset.sum_boole]
  rfl

theorem twelve : Ideal.ofBits .f32 0x41400000#32 = ((12 : ℕ) : EReal) := by
  rw [show ((12 : ℕ) : EReal) = ((12 : ℝ) : EReal) from rfl]
  simp [Ideal.ofBits, Ideal.ieee, -EReal.coe_mul]
  norm_num

theorem taken_apply (i : Fin 2048) (e : Fin 128) :
    taken r (ix2 i e) = BitVec.ofBool (decide (r (ix2 i 0) = BitVec.ofNat 32 e ∧ before (fun t : Fin 2048 => r (ix2 t 0)) i < 12)) := by
  unfold taken
  pointwise
  rw [cmpi_eq_eq, count_apply, twelve, andi_ofBool, ← Bool.decide_and]
  congr 2
  rw [Nat.cast_lt]

theorem out_apply (i : Fin 2048) (j : Fin 1024) : out x r W (ix2 i j) =
    ∑ e : Fin 128, if r (ix2 i 0) = BitVec.ofNat 32 e ∧ before (fun t : Fin 2048 => r (ix2 t 0)) i < 12 then
      ∑ k : Fin 512, x (ix2 i k) * W (ix3 e k j) else 0 := by
  unfold out
  pointwise [dot_S2048x512_S128x512x1024_S2048x128x1024_1_1_0_02_n_n]
  refine Finset.sum_congr rfl fun e _ => ?_
  rw [taken_apply, select_decide, id_eq]
  congr 1
  pointwise

end Cert.Moe.Want

end
-- ==== Proof.Value.lean ====
/-
# The value claim

Every device's result is the reference's: the one block of the result window is the whole array, the windows' blocks of the
arguments are the whole arguments, and the expert weights of a device are its four experts of all.
-/
module

public import proofs.«01_k».proof.Proof.Gathered
public import proofs.«01_k».proof.Proof.Launch
public import proofs.«01_k».proof.Proof.Want
public import proofs.«01_k».proof.Proof.Frames
public import Idealize.ShloMosaic.Lib.Layout

@[expose] public section

noncomputable section

namespace Cert.Moe

open Idealize.ShloMosaic Idealize.SL.Sem
open Cert.KernelIdeal Cert.KernelIdeal.Gen

variable (m : (ℓ : Loc nD τ sig) → Buf (Elt Ideal) ℓ) (c : Dev nD)

theorem xst_eq : xst m c = m ((c.tc : Thread nD τ).loc main_arg0) :=
  Memref.read_access_unit_zero (Elt Ideal) main_arg0 (funext fun a => by fin_cases a <;> decide) (fun a => by fin_cases a <;> decide) _

theorem rst_eq : rst m c = m ((c.tc : Thread nD τ).loc main_arg2) :=
  Memref.read_access_unit_zero (Elt Ideal) main_arg2 (funext fun a => by fin_cases a <;> decide) (fun a => by fin_cases a <;> decide) _

theorem wst_eq : wst m c = m ((c.tc : Thread nD τ).loc main_arg3) :=
  Memref.read_access_unit_zero (Elt Ideal) main_arg3 (funext fun a => by fin_cases a <;> decide) (fun a => by fin_cases a <;> decide) _

/-- A device's weights of its `l`-th expert. -/
theorem wl_eq (l : Fin 4) (k : Fin 512) (j : Fin 1024) : wl m c l (ix3 0 k j) = m ((c.tc : Thread nD τ).loc main_arg3) (ix3 l k j) := by
  rw [← wst_eq m c]
  unfold wl
  rw [View.readAt_apply]
  refine congrArg (wst m c) (funext fun a => Fin.ext ?_)
  match a with
  | ⟨0, _⟩ => show l.val + 1 * 0 = l.val; omega
  | ⟨1, _⟩ => show 0 + 1 * k.val = k.val; omega
  | ⟨2, _⟩ => show 0 + 1 * j.val = j.val; omega

theorem finalA_eq : finalA m c (3 : Fin 4) = outAt m c := by
  have hz : (fun a => (win0_3.index t0_0) a * main_v1.ty.shape.size a) = fun _ => 0 := funext fun a => by fin_cases a <;> decide
  have hr := fun f => Memref.read_access_unit_zero (Elt Ideal) main_v1 hz (fun a => by fin_cases a <;> decide) f
  refine (hr (finalA m c (3 : Fin 4))).symm.trans ?_
  unfold finalA
  rw [show cfg0.N = (t0_0 : Fin cfg0.N).val + 1 from rfl, (dats m 0 c).arrAt_succ (3 : Fin 4) t0_0]
  rw [show (cfg0.win (3 : Fin 4)).flush t0_0 = true from by decide, if_pos rfl]
  exact View.read_write_univ _ _

/-- A device's experts are four of all: expert `e` is number `e % 4` of device `e / 4`. -/
theorem idx_own (h : Layout.Tiles ⟨3, ![4, 512, 1024]⟩ ⟨3, ![128, 512, 1024]⟩ 0 32) (e : Fin 128) (k : Fin 512) (j : Fin 1024) :
    h.idx (devOf e) (ix3 (locOf e) k j) = ix3 e k j := by
  funext a
  apply Fin.ext
  match a with
  | ⟨0, _⟩ => show e.val / 4 * 4 + e.val % 4 = e.val; omega
  | ⟨1, _⟩ => rfl
  | ⟨2, _⟩ => rfl

theorem value : Cert.algebraic_KernelIdeal_ReferenceIdeal := by
  intro m g m' g' _ hagree
  refine ⟨_, ?_, (θ_run Cert.ReferenceIdeal.defs _ _).mono (fun _ h => h 0) (Cert.ReferenceIdeal.Value.run m' g')⟩
  refine (θ_run defs _ _).mono (fun r h c => ?_) (run_out m g)
  obtain ⟨h0, h1, h2, h3, hv⟩ := h.1 c
  refine ⟨hv.trans ((finalA_eq m c).trans ?_), h0, h1, h2, h3⟩
  show outAt m c = Want.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
  have hx (d : Dev nD) := (xst_eq m d).trans (hagree d).1
  have hr (d : Dev nD) := (rst_eq m d).trans (hagree d).2.2.1
  have hw (e : Fin 128) (k : Fin 512) (j : Fin 1024) := (wl_eq m (devOf e) (locOf e) k j).trans (congrFun (hagree (devOf e)).2.2.2 _)
  funext y
  obtain ⟨i, j, rfl⟩ : ∃ (i : Fin 2048) (j : Fin 1024), y = ix2 i j := ⟨y 0, y 1, funext fun a => by fin_cases a <;> rfl⟩
  rw [out_apply m c (fun d => (hr d).trans (hr c).symm) (fun d => (hx d).trans (hx c).symm), Want.out_apply]
  refine Finset.sum_congr rfl fun e _ => ?_
  simp only [hw, hx, Layout.block_apply, idx_own]
  rw [hr c]
  rfl

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_kernel, Cert.Moe.frame_ideal, Cert.Moe.frame_reference, trivial, Cert.Moe.value⟩

end Cert.Proof

end
